-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3072x7168 : Shape := ⟨3, ![1, 3072, 7168]⟩
abbrev S7168x9216 : Shape := ⟨2, ![7168, 9216]⟩
abbrev S9216 : Shape := ⟨1, ![9216]⟩
abbrev S3072x7168 : Shape := ⟨2, ![3072, 7168]⟩
abbrev S1x9216 : Shape := ⟨2, ![1, 9216]⟩
abbrev S3072x1 : Shape := ⟨2, ![3072, 1]⟩
abbrev S256x7168 : Shape := ⟨2, ![256, 7168]⟩
abbrev S256x1 : Shape := ⟨2, ![256, 1]⟩
abbrev S256 : Shape := ⟨1, ![256]⟩
abbrev S3072x4608 : Shape := ⟨2, ![3072, 4608]⟩
abbrev S512x7168 : Shape := ⟨2, ![512, 7168]⟩
abbrev S512x1 : Shape := ⟨2, ![512, 1]⟩
abbrev S7168x256 : Shape := ⟨2, ![7168, 256]⟩
abbrev S1x256 : Shape := ⟨2, ![1, 256]⟩
abbrev S512x4608 : Shape := ⟨2, ![512, 4608]⟩
abbrev S18x512x256 : Shape := ⟨3, ![18, 512, 256]⟩
abbrev S512x128 : Shape := ⟨2, ![512, 128]⟩
abbrev S512x256 : Shape := ⟨2, ![512, 256]⟩
abbrev S1x512x256 : Shape := ⟨3, ![1, 512, 256]⟩
abbrev S512 : Shape := ⟨1, ![512]⟩
abbrev S1x3072x1 : Shape := ⟨3, ![1, 3072, 1]⟩
abbrev S1x3072x4608 : Shape := ⟨3, ![1, 3072, 4608]⟩

abbrev nBuf : Space → Nat
  | .hbm => 13
  | .vmem => 24
  | .smem => 0
  | _ => 0

abbrev bufTy : (tb : Table) → Fin (tcTables nBuf tb) → BufTy
  | .hbm, ⟨0, _⟩ => ⟨S1x3072x7168, .bf16⟩
  | .hbm, ⟨1, _⟩ => ⟨S7168x9216, .fp8e4m3⟩
  | .hbm, ⟨2, _⟩ => ⟨S9216, .f32⟩
  | .hbm, ⟨3, _⟩ => ⟨S3072x7168, .bf16⟩
  | .hbm, ⟨4, _⟩ => ⟨S1x9216, .f32⟩
  | .hbm, ⟨5, _⟩ => ⟨S3072x7168, .fp8e4m3⟩
  | .hbm, ⟨6, _⟩ => ⟨S3072x1, .f32⟩
  | .hbm, ⟨7, _⟩ => ⟨S3072x1, .f32⟩
  | .hbm, ⟨8, _⟩ => ⟨S3072x4608, .fp8e4m3⟩
  | .hbm, ⟨9, _⟩ => ⟨S1x3072x1, .f32⟩
  | .hbm, ⟨10, _⟩ => ⟨S1x3072x4608, .fp8e4m3⟩
  | .hbm, ⟨11, _⟩ => ⟨S1x3072x7168, .fp8e4m3⟩
  | .hbm, ⟨12, _⟩ => ⟨S1x3072x1, .f32⟩
  | .local _ .vmem, ⟨0, _⟩ => ⟨S256x7168, .bf16⟩
  | .local _ .vmem, ⟨1, _⟩ => ⟨S256x7168, .bf16⟩
  | .local _ .vmem, ⟨2, _⟩ => ⟨S256x7168, .fp8e4m3⟩
  | .local _ .vmem, ⟨3, _⟩ => ⟨S256x7168, .fp8e4m3⟩
  | .local _ .vmem, ⟨4, _⟩ => ⟨S256x1, .f32⟩
  | .local _ .vmem, ⟨5, _⟩ => ⟨S256x1, .f32⟩
  | .local _ .vmem, ⟨6, _⟩ => ⟨S512x7168, .fp8e4m3⟩
  | .local _ .vmem, ⟨7, _⟩ => ⟨S512x7168, .fp8e4m3⟩
  | .local _ .vmem, ⟨8, _⟩ => ⟨S512x1, .f32⟩
  | .local _ .vmem, ⟨9, _⟩ => ⟨S512x1, .f32⟩
  | .local _ .vmem, ⟨10, _⟩ => ⟨S7168x256, .fp8e4m3⟩
  | .local _ .vmem, ⟨11, _⟩ => ⟨S7168x256, .fp8e4m3⟩
  | .local _ .vmem, ⟨12, _⟩ => ⟨S7168x256, .fp8e4m3⟩
  | .local _ .vmem, ⟨13, _⟩ => ⟨S7168x256, .fp8e4m3⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S512x1, .f32⟩
  | .local _ .vmem, ⟨19, _⟩ => ⟨S512x1, .f32⟩
  | .local _ .vmem, ⟨20, _⟩ => ⟨S512x4608, .fp8e4m3⟩
  | .local _ .vmem, ⟨21, _⟩ => ⟨S512x4608, .fp8e4m3⟩
  | .local _ .vmem, ⟨22, _⟩ => ⟨S18x512x256, .f32⟩
  | .local _ .vmem, ⟨23, _⟩ => ⟨S512x128, .f32⟩
  | _, _ => ⟨S1x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![6, 18], ![false, false]⟩

def k1_off1 (i : grid1.Coords) : Fin 3 → Nat :=
  let arg1 : BitVec 32 := BitVec.ofNat 32 (i 1).val
  let v23 : Index := Scalar.indexCast arg1
  let c0_12 : Index := 0#32
  let c0_13 : Index := 0#32
  ![v23.toNat, 0, 0]
def k1_cond3 (i : grid1.Coords) : BitVec 1 :=
  let arg1 : BitVec 32 := BitVec.ofNat 32 (i 1).val
  let c17_i32 : BitVec 32 := 17#32
  let v38 : BitVec 1 := Scalar.cmpi .eq arg1 c17_i32
  let v39 : BitVec 32 := Scalar.extui v38
  let c0_i32_17 : BitVec 32 := 0#32
  let v40 : BitVec 1 := Scalar.cmpi .ne v39 c0_i32_17
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi arg1 c18_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi arg1 c18_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S7168x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S7168x256 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x4608 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S1x3072x7168 : Shape := ⟨3, ![1, 3072, 7168]⟩
abbrev S7168x9216 : Shape := ⟨2, ![7168, 9216]⟩
abbrev S9216 : Shape := ⟨1, ![9216]⟩
abbrev S3072x7168 : Shape := ⟨2, ![3072, 7168]⟩
abbrev S1x9216 : Shape := ⟨2, ![1, 9216]⟩
abbrev S3072x1 : Shape := ⟨2, ![3072, 1]⟩
abbrev S3072x4608 : Shape := ⟨2, ![3072, 4608]⟩
abbrev S3072 : Shape := ⟨1, ![3072]⟩
abbrev S3072x256 : Shape := ⟨2, ![3072, 256]⟩
abbrev S3072x9216 : Shape := ⟨2, ![3072, 9216]⟩
abbrev S1x3072x1 : Shape := ⟨3, ![1, 3072, 1]⟩
abbrev S1x3072x4608 : Shape := ⟨3, ![1, 3072, 4608]⟩

abbrev nBuf : Space → Nat
  | .hbm => 13
  | .vmem => 7
  | .smem => 0
  | _ => 0

abbrev bufTy : (tb : Table) → Fin (tcTables nBuf tb) → BufTy
  | .hbm, ⟨0, _⟩ => ⟨S1x3072x7168, .bf16⟩
  | .hbm, ⟨1, _⟩ => ⟨S7168x9216, .fp8e4m3⟩
  | .hbm, ⟨2, _⟩ => ⟨S9216, .f32⟩
  | .hbm, ⟨3, _⟩ => ⟨S3072x7168, .bf16⟩
  | .hbm, ⟨4, _⟩ => ⟨S1x9216, .f32⟩
  | .hbm, ⟨5, _⟩ => ⟨S3072x1, .f32⟩
  | .hbm, ⟨6, _⟩ => ⟨S3072x4608, .fp8e4m3⟩
  | .hbm, ⟨7, _⟩ => ⟨S3072x7168, .fp8e4m3⟩
  | .hbm, ⟨8, _⟩ => ⟨S3072x1, .f32⟩
  | .hbm, ⟨9, _⟩ => ⟨S1x3072x1, .f32⟩
  | .hbm, ⟨10, _⟩ => ⟨S1x3072x4608, .fp8e4m3⟩
  | .hbm, ⟨11, _⟩ => ⟨S1x3072x7168, .fp8e4m3⟩
  | .hbm, ⟨12, _⟩ => ⟨S1x3072x1, .f32⟩
  | .local _ .vmem, ⟨0, _⟩ => ⟨S3072x7168, .bf16⟩
  | .local _ .vmem, ⟨1, _⟩ => ⟨S7168x9216, .fp8e4m3⟩
  | .local _ .vmem, ⟨2, _⟩ => ⟨S1x9216, .f32⟩
  | .local _ .vmem, ⟨3, _⟩ => ⟨S3072x1, .f32⟩
  | .local _ .vmem, ⟨4, _⟩ => ⟨S3072x4608, .fp8e4m3⟩
  | .local _ .vmem, ⟨5, _⟩ => ⟨S3072x7168, .fp8e4m3⟩
  | .local _ .vmem, ⟨6, _⟩ => ⟨S3072x1, .f32⟩
  | _, _ => ⟨S1x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x9216 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.WordGateValues.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of the second kernel's body -/

/-- The block of `h` a grid point computes: the gate and up products, each scaled by row and column, and their
    combination `gate * logistic gate * up`, as the one slab the point stores. -/
def hSlab (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) : FVec F S1x512x256 .f32 := k1_pay31 x0 x1 x2 x4 x3 x5

/-- The largest magnitude of the block per row and lane, over its two halves of 128 lanes. -/
def lanes (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) : FVec F S512x128 .f32 := k1_pay32 x0 x1 x2 x4 x3 x5

/-- Slab `k` of the carried blocks. -/
def slab (H : Vec F S18x512x256 .f32) (k : ℕ) (inb : ∀ a, (![k, 0, 0] : Fin 3 → ℕ) a + S1x512x256.size a ≤ S18x512x256.size a) : Vec F S1x512x256 .f32 :=
  VecWindow.window H ![k, 0, 0] S1x512x256.size inb

/-- The carried blocks with one slab put at the point's step. -/
def putSlab (i : grid1.Coords) (H : Vec F S18x512x256 .f32) (v : FVec F S1x512x256 .f32) : Vec F S18x512x256 .f32 :=
  VecWindow.put H (k1_off1 i) S1x512x256.size v

/-- The power-of-two exponent of each row, from the lane maxima. -/
def expoOf (A : Vec F S512x128 .f32) : IVec S512x1 32 := k1_pay10 (k1_pay5 A) (k1_pay6 A) (k1_pay7 A) 23#32

/-- The row scale written out. -/
def scaleOf (A : Vec F S512x128 .f32) : FVec F S512x1 .f32 := k1_pay9 (k1_pay5 A) (k1_pay6 A) (k1_pay7 A) 23#32

/-- The reciprocal of the row scale. -/
def negScale (A : Vec F S512x128 .f32) : FVec F S512x1 .f32 := k1_pay12 (F := F) (expoOf A) k1_pay11

/-- The codes of one row block, from its carried blocks and its lane maxima: one piece per slab, the last first. -/
def codePieces (H : Vec F S18x512x256 .f32) (A : Vec F S512x128 .f32) : List (View.Piece (Elt F) S512x4608 .fp8e4m3) :=
  [ ⟨Rect.unit (s := S512x4608) ![0, 4352] S512x256.size inb_S512x4608_S512x256_0_4352, k1_pay4 (negScale A) (slab H 17 inb_S18x512x256_S1x512x256_17_0_0)⟩,
    ⟨Rect.unit (s := S512x4608) ![0, 4096] S512x256.size inb_S512x4608_S512x256_0_4096, k1_pay3 (negScale A) (slab H 16 inb_S18x512x256_S1x512x256_16_0_0)⟩,
    ⟨Rect.unit (s := S512x4608) ![0, 3840] S512x256.size inb_S512x4608_S512x256_0_3840, k1_pay2 (k1_pay29 (negScale A) (slab H 15 inb_S18x512x256_S1x512x256_15_0_0)) (Scalar.ofBits .f32 0xC3E00000#32) (Scalar.ofBits .f32 0x43E00000#32)⟩,
    ⟨Rect.unit (s := S512x4608) ![0, 3584] S512x256.size inb_S512x4608_S512x256_0_3584, k1_pay28 (negScale A) (slab H 14 inb_S18x512x256_S1x512x256_14_0_0)⟩,
    ⟨Rect.unit (s := S512x4608) ![0, 3328] S512x256.size inb_S512x4608_S512x256_0_3328, k1_pay27 (negScale A) (slab H 13 inb_S18x512x256_S1x512x256_13_0_0)⟩,
    ⟨Rect.unit (s := S512x4608) ![0, 3072] S512x256.size inb_S512x4608_S512x256_0_3072, k1_pay26 (negScale A) (slab H 12 inb_S18x512x256_S1x512x256_12_0_0)⟩,
    ⟨Rect.unit (s := S512x4608) ![0, 2816] S512x256.size inb_S512x4608_S512x256_0_2816, k1_pay25 (negScale A) (slab H 11 inb_S18x512x256_S1x512x256_11_0_0)⟩,
    ⟨Rect.unit (s := S512x4608) ![0, 2560] S512x256.size inb_S512x4608_S512x256_0_2560, k1_pay24 (negScale A) (slab H 10 inb_S18x512x256_S1x512x256_10_0_0)⟩,
    ⟨Rect.unit (s := S512x4608) ![0, 2304] S512x256.size inb_S512x4608_S512x256_0_2304, k1_pay23 (negScale A) (slab H 9 inb_S18x512x256_S1x512x256_9_0_0)⟩,
    ⟨Rect.unit (s := S512x4608) ![0, 2048] S512x256.size inb_S512x4608_S512x256_0_2048, k1_pay22 (negScale A) (slab H 8 inb_S18x512x256_S1x512x256_8_0_0)⟩,
    ⟨Rect.unit (s := S512x4608) ![0, 1792] S512x256.size inb_S512x4608_S512x256_0_1792, k1_pay21 (negScale A) (slab H 7 inb_S18x512x256_S1x512x256_7_0_0)⟩,
    ⟨Rect.unit (s := S512x4608) ![0, 1536] S512x256.size inb_S512x4608_S512x256_0_1536, k1_pay20 (negScale A) (slab H 6 inb_S18x512x256_S1x512x256_6_0_0)⟩,
    ⟨Rect.unit (s := S512x4608) ![0, 1280] S512x256.size inb_S512x4608_S512x256_0_1280, k1_pay19 (k1_pay18 (negScale A) (slab H 5 inb_S18x512x256_S1x512x256_5_0_0)) (Scalar.ofBits .f32 0xC3E00000#32) (Scalar.ofBits .f32 0x43E00000#32)⟩,
    ⟨Rect.unit (s := S512x4608) ![0, 1024] S512x256.size inb_S512x4608_S512x256_0_1024, k1_pay17 (negScale A) (slab H 4 inb_S18x512x256_S1x512x256_4_0_0)⟩,
    ⟨Rect.unit (s := S512x4608) ![0, 768] S512x256.size inb_S512x4608_S512x256_0_768, k1_pay16 (negScale A) (slab H 3 inb_S18x512x256_S1x512x256_3_0_0)⟩,
    ⟨Rect.unit (s := S512x4608) ![0, 512] S512x256.size inb_S512x4608_S512x256_0_512, k1_pay15 (negScale A) (slab H 2 inb_S18x512x256_S1x512x256_2_0_0)⟩,
    ⟨Rect.unit (s := S512x4608) ![0, 256] S512x256.size inb_S512x4608_S512x256_0_256, k1_pay14 (expoOf A) k1_pay11 (slab H 1 inb_S18x512x256_S1x512x256_1_0_0)⟩,
    ⟨Rect.unit (s := S512x4608) ![0, 0] S512x256.size inb_S512x4608_S512x256_0_0, k1_pay13 (expoOf A) k1_pay11 (slab H 0 inb_S18x512x256_S1x512x256_0_0_0)⟩ ]

def codesOf (H : Vec F S18x512x256 .f32) (A : Vec F S512x128 .f32) : Vec F S512x4608 .fp8e4m3 := View.canon (codePieces H A)

/-- The pieces tile the row block. -/
theorem codePieces_cover (H : Vec F S18x512x256 .f32) (A : Vec F S512x128 .f32) (y : S512x4608.Idx) :
    ∃ pc ∈ codePieces H A, y ∈ pc.1.set :=
  View.cover_of_tiledL (codePieces H A) S512x256.size (by sl_kernel_rfl) y

/-! ## The body's branch conditions -/

/-- The first step of a row block: `j == 0`. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 18 = 0 :=
  (by decide +kernel : ∀ t : Fin grid1.N, cond0 (grid1.coords t) ↔ t.val % 18 = 0)
/-- A later step: `j > 0`. -/
abbrev cond1 (i : grid1.Coords) : Prop := (Scalar.cmpi .ne (Scalar.extui (Scalar.cmpi .sgt (BitVec.ofNat 32 (i 1).val) 0#32)) 0#32) = 1#1
theorem hcond1 : ∀ t : Fin cfg1.N, cond1 (grid1.coords t) ↔ ¬ t.val % 18 = 0 :=
  (by decide +kernel : ∀ t : Fin grid1.N, cond1 (grid1.coords t) ↔ ¬ t.val % 18 = 0)
/-- The last step: `j == 17`. -/
abbrev cond2 (i : grid1.Coords) : Prop := k1_cond3 i = 1#1
theorem hcond2 : ∀ t : Fin cfg1.N, cond2 (grid1.coords t) ↔ t.val % 18 = 17 :=
  (by decide +kernel : ∀ t : Fin grid1.N, cond2 (grid1.coords t) ↔ t.val % 18 = 17)

end Cert.Kernel.Whole

end
-- ==== Proof.WordQuant.lean ====
module

public import proofs.«01_k».proof.Proof.WordGateValues
public import Idealize.ShloMosaic.Lib.Pipeline.FrameBody
public import Idealize.ShloMosaic.Lib.Pipeline.Value

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # The first call: the rows of `x` are quantised, one block of rows per grid point -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay7` …, after `k0_pay6`), so that
    `out0_W` and the values after it name it instead of spelling it out (`unfold_out out0_W` opens a canon
    with them, `unfold_payloads` opens them with the payloads); the comment after each is the printed function's
    name for the value (a count appended where that name is bound again). -/

def k0_pay7 (x0 : Vec F S256x7168 .bf16) : FVec F S256x1 .f32 :=
  k0_pay3 (View.ld x0 r0_0) -- `v7`
def k0_pay8 (x0 : Vec F S256x7168 .bf16) : IVec S256x1 32 :=
  k0_pay4 (View.ld x0 r0_0) -- `v43`

/-- Window 1's staging buffer after the body, from the input windows' blocks: its 1 store as pieces, LAST
    FIRST (Lib/Pipeline/FrameBody.lean `View.canon`; the payloads are the skeleton's and the values stated above). -/
def out0_1 (x0 : Vec F S256x7168 .bf16) : Vec F S256x7168 .fp8e4m3 :=
  View.canon [⟨r0_0, k0_pay1 (k0_pay2 (View.ld x0 r0_0)) (k0_pay5 (k0_pay7 x0) (k0_pay8 x0)) 0#32⟩]

/-- Its stores tile the buffer (checked by evaluation), so they cover it. -/
theorem cover0_1 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

/-- Window 2's staging buffer after the body, from the input windows' blocks: its 1 store as pieces, LAST
    FIRST (Lib/Pipeline/FrameBody.lean `View.canon`; the payloads are the skeleton's and the values stated above). -/
def out0_2 (x0 : Vec F S256x7168 .bf16) : Vec F S256x1 .f32 :=
  View.canon [⟨r0_1, k0_pay6 (k0_pay7 x0) (k0_pay8 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x7168 .bf16) (harg1 : arg1.IsWhole) (arg2 : Memref sig .tc .vmem S256x7168 .fp8e4m3) (harg2 : arg2.IsWhole) (arg3 : Memref sig .tc .vmem S256x1 .f32) (harg3 : arg3.IsWhole)
    (x0 : Vec F S256x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_x_kernel i arg1 harg1 arg2 harg2 arg3 harg3) K := by
  simp only [cc0__quant_x_kernel_eq_skeleton]; unfold cc0__quant_x_kernel_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Whole

end
-- ==== Proof.WordGateBlocks.lean ====
module

public import proofs.«01_k».proof.Proof.WordGateValues
public import Idealize.ShloMosaic.Lib.Pipeline.FrameBody

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## Where the outputs are idle: every step but a row block's last -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem idleAt1_6 : ∀ t : Fin cfg1.N, ¬cond2 (grid1.coords t) → cfg1.idle 6 (grid1.coords t) = true := by decide +kernel
theorem noFlush1_6 : ∀ t : Fin cfg1.N, ¬cond2 (grid1.coords t) → (cfg1.win 6).flush t = false := by decide +kernel
theorem lastAt1_6 : ∀ t : Fin cfg1.N, cond2 (grid1.coords t) → cfg1.idle 6 (grid1.coords t) = false := by decide +kernel
theorem idleAt1_7 : ∀ t : Fin cfg1.N, ¬cond2 (grid1.coords t) → cfg1.idle 7 (grid1.coords t) = true := by decide +kernel
theorem noFlush1_7 : ∀ t : Fin cfg1.N, ¬cond2 (grid1.coords t) → (cfg1.win 7).flush t = false := by decide +kernel
theorem lastAt1_7 : ∀ t : Fin cfg1.N, cond2 (grid1.coords t) → cfg1.idle 7 (grid1.coords t) = false := by decide +kernel

/-! ## The staging memrefs of a point and the scratch buffers -/

abbrev ms1_0 (t : Fin cfg1.N) : Memref sig .tc .vmem S512x7168 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S7168x256 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x4608 .fp8e4m3 := win1_7.stage (cfg1.slots t 7)
abbrev hs1_7 (t : Fin cfg1.N) : (ms1_7 t).IsWhole := hstage1_7 ((cfg1.slots t 7).cast nbuf1_7)
/-- The scratch buffers: the blocks of `h` of the row block, and the lane maxima. -/
abbrev scM1_0 : Memref sig .tc .vmem S18x512x256 .f32 := Memref.whole cc1_scratch0
abbrev scM1_1 : Memref sig .tc .vmem S512x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Regions

end Cert.Kernel.Whole

end
-- ==== Proof.WordGateDat.lean ====
module

public import proofs.«01_k».proof.Proof.WordGateBlocks
public import Idealize.ShloMosaic.Lib.Pipeline.Value
public import Idealize.ShloMosaic.Lib.ValueIdxCore

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## What the scratch buffers hold -/

/-- Position `n` as a grid point. -/
def pt (n : ℕ) : Fin cfg1.N := ⟨n % 108, lt_of_lt_of_eq (Nat.mod_lt n (by omega)) N_1.symm⟩

theorem pt_val (t : Fin cfg1.N) : pt t.val = t :=
  Fin.ext (Nat.mod_eq_of_lt (lt_of_lt_of_eq t.isLt N_1))

/-- The block of `h` of position `n`. -/
def hAt (c : Dev nD) (n : ℕ) : FVec F S1x512x256 .f32 := hSlab (iblk1 V c 0 (pt n)) (iblk1 V c 1 (pt n)) (iblk1 V c 2 (pt n)) (iblk1 V c 3 (pt n)) (iblk1 V c 4 (pt n)) (iblk1 V c 5 (pt n))

/-- The lane maxima of the block of position `n`. -/
def laneAt (c : Dev nD) (n : ℕ) : FVec F S512x128 .f32 := lanes (iblk1 V c 0 (pt n)) (iblk1 V c 1 (pt n)) (iblk1 V c 2 (pt n)) (iblk1 V c 3 (pt n)) (iblk1 V c 4 (pt n)) (iblk1 V c 5 (pt n))

/-- The lane maxima over the steps 0 … `k` of row block `b`. -/
def amaxAt (c : Dev nD) (b : ℕ) : ℕ → FVec F S512x128 .f32
  | 0 => laneAt V c (18 * b)
  | k + 1 => maximumf (amaxAt c b k) (laneAt V c (18 * b + (k + 1)))

/-- An index of the carried blocks within its slab. -/
def inSlab (y : S18x512x256.Idx) : S1x512x256.Idx := ValueIdx.ix3 (0 : Fin 1) (y 1) (y 2)

/-- All the blocks of `h` of row block `b`. -/
def hFull (c : Dev nD) (b : ℕ) : Vec F S18x512x256 .f32 := fun y => hAt V c (18 * b + (y 0).val) (inSlab y)

/-- What is known of the scratch buffers before position `n`: the slabs of the row block's steps done hold their blocks,
    and the lane maxima are those over these steps. -/
def Carried (c : Dev nD) (n : ℕ) (H : Vec F S18x512x256 .f32) (A : Vec F S512x128 .f32) : Prop :=
  (∀ y : S18x512x256.Idx, (y 0).val < n % 18 → H y = hAt V c (18 * (n / 18) + (y 0).val) (inSlab y))
    ∧ ∀ k, n % 18 = k + 1 → A = amaxAt V c (n / 18) k

theorem off1_val : ∀ (t : Fin cfg1.N) (a : Fin 3), k1_off1 (grid1.coords t) a = if a = 0 then t.val % 18 else 0 :=
  (by decide +kernel : ∀ (t : Fin grid1.N) (a : Fin 3), k1_off1 (grid1.coords t) a = if a = 0 then t.val % 18 else 0)

/-- The step's slab put among the carried blocks, read back. -/
theorem putSlab_apply (t : Fin cfg1.N) (H : Vec F S18x512x256 .f32) (v : FVec F S1x512x256 .f32) (y : S18x512x256.Idx) :
    putSlab (grid1.coords t) H v y = if (y 0).val = t.val % 18 then v (inSlab y) else H y := by
  unfold putSlab VecWindow.put
  have e0 : k1_off1 (grid1.coords t) 0 = t.val % 18 := off1_val t 0
  have e1 : k1_off1 (grid1.coords t) 1 = 0 := off1_val t 1
  have e2 : k1_off1 (grid1.coords t) 2 = 0 := off1_val t 2
  have b1 : (y 1).val < 512 := (y 1).isLt
  have b2 : (y 2).val < 256 := (y 2).isLt
  by_cases h : (y 0).val = t.val % 18
  · have hp : ∀ a, k1_off1 (grid1.coords t) a ≤ (y a).val ∧ (y a).val < k1_off1 (grid1.coords t) a + S1x512x256.size a := by
      intro a
      fin_cases a
      · show k1_off1 (grid1.coords t) 0 ≤ (y 0).val ∧ (y 0).val < k1_off1 (grid1.coords t) 0 + 1
        omega
      · show k1_off1 (grid1.coords t) 1 ≤ (y 1).val ∧ (y 1).val < k1_off1 (grid1.coords t) 1 + 512
        omega
      · show k1_off1 (grid1.coords t) 2 ≤ (y 2).val ∧ (y 2).val < k1_off1 (grid1.coords t) 2 + 256
        omega
    rw [dif_pos hp, if_pos h]
    refine congrArg v (funext fun a => Fin.ext ?_)
    fin_cases a
    · show (y 0).val - k1_off1 (grid1.coords t) 0 = 0
      omega
    · show (y 1).val - k1_off1 (grid1.coords t) 1 = (y 1).val
      omega
    · show (y 2).val - k1_off1 (grid1.coords t) 2 = (y 2).val
      omega
  · rw [if_neg h, dif_neg]
    intro hp
    have h0 : k1_off1 (grid1.coords t) 0 ≤ (y 0).val ∧ (y 0).val < k1_off1 (grid1.coords t) 0 + 1 := hp 0
    omega

theorem hAt_pt (c : Dev nD) (t : Fin cfg1.N) : hSlab (iblk1 V c 0 t) (iblk1 V c 1 t) (iblk1 V c 2 t) (iblk1 V c 3 t) (iblk1 V c 4 t) (iblk1 V c 5 t) = hAt V c t.val := by
  unfold hAt; rw [pt_val]
theorem laneAt_pt (c : Dev nD) (t : Fin cfg1.N) : lanes (iblk1 V c 0 t) (iblk1 V c 1 t) (iblk1 V c 2 t) (iblk1 V c 3 t) (iblk1 V c 4 t) (iblk1 V c 5 t) = laneAt V c t.val := by
  unfold laneAt; rw [pt_val]

/-- A first step: whatever the buffers held. -/
theorem carried_first (c : Dev nD) (t : Fin cfg1.N) (h0 : t.val % 18 = 0) (H : Vec F S18x512x256 .f32) :
    Carried V c (t.val + 1) (putSlab (grid1.coords t) H (hAt V c t.val)) (laneAt V c t.val) := by
  have hd : 18 * ((t.val + 1) / 18) = t.val := by omega
  refine ⟨fun y hy => ?_, fun k hk => ?_⟩
  · rw [putSlab_apply, if_pos (by omega), show 18 * ((t.val + 1) / 18) + (y 0).val = t.val by omega]
  · obtain rfl : k = 0 := by omega
    show _ = laneAt V c _
    rw [hd]

/-- The lane maxima after a later step. -/
theorem amax_step (c : Dev nD) (t : Fin cfg1.N) (h0 : ¬ t.val % 18 = 0) (A : Vec F S512x128 .f32)
    (hA : ∀ k, t.val % 18 = k + 1 → A = amaxAt V c (t.val / 18) k) :
    maximumf A (laneAt V c t.val) = amaxAt V c (t.val / 18) (t.val % 18) := by
  obtain ⟨k, hk⟩ : ∃ k, t.val % 18 = k + 1 := ⟨t.val % 18 - 1, by omega⟩
  rw [hA k hk, hk]
  show _ = maximumf (amaxAt V c (t.val / 18) k) (laneAt V c (18 * (t.val / 18) + (k + 1)))
  rw [show 18 * (t.val / 18) + (k + 1) = t.val by omega]

/-- A middle step. -/
theorem carried_mid (c : Dev nD) (t : Fin cfg1.N) (h0 : ¬ t.val % 18 = 0) (h2 : ¬ t.val % 18 = 17) (H : Vec F S18x512x256 .f32)
    (A : Vec F S512x128 .f32) (h : Carried V c t.val H A) :
    Carried V c (t.val + 1) (putSlab (grid1.coords t) H (hAt V c t.val)) (maximumf A (laneAt V c t.val)) := by
  have hd : (t.val + 1) / 18 = t.val / 18 := by omega
  refine ⟨fun y hy => ?_, fun k hk => ?_⟩
  · rw [putSlab_apply, hd]
    by_cases hy0 : (y 0).val = t.val % 18
    · rw [if_pos hy0, show 18 * (t.val / 18) + (y 0).val = t.val by omega]
    · rw [if_neg hy0, h.1 y (by omega)]
  · rw [amax_step V c t h0 A h.2, hd, show k = t.val % 18 by omega]

/-- At the last step every slab is in place. -/
theorem full_last (c : Dev nD) (t : Fin cfg1.N) (h2 : t.val % 18 = 17) (H : Vec F S18x512x256 .f32)
    (A : Vec F S512x128 .f32) (h : Carried V c t.val H A) :
    putSlab (grid1.coords t) H (hAt V c t.val) = hFull V c (t.val / 18) := by
  funext y
  have hy : (y 0).val < 18 := (y 0).isLt
  rw [putSlab_apply]
  unfold hFull
  by_cases hy0 : (y 0).val = t.val % 18
  · rw [if_pos hy0, show 18 * (t.val / 18) + (y 0).val = t.val by omega]
  · rw [if_neg hy0, h.1 y (by omega)]

theorem carried_none (c : Dev nD) (n : ℕ) (h : n % 18 = 0) (H : Vec F S18x512x256 .f32) (A : Vec F S512x128 .f32) : Carried V c n H A :=
  ⟨fun y hy => by omega, fun k hk => by omega⟩

/-! ## The second call's proof data -/

/-- The region's invariant before position `n`. -/
def PhiC (c : Dev nD) (n : ℕ) : sProp 𝕄 :=
  iprop(∃ H A, ⌜Carried V c n H A⌝ ∗ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare H ∗ owns (c : Thread nD τ) scM1_1 fullShare A) ∗ (∃ r, prngReg c r)))

/-- The proof data of the second call: the arrays as the region finds them; after the body each input's buffer at its
    block, the scale's and the codes' at the row block's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => scaleOf (amaxAt V c (t.val / 18) 17)
    | ⟨7, _⟩ => codesOf (hFull V c (t.val / 18)) (amaxAt V c (t.val / 18) 17)
  Φ n := PhiC V c n.val
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = scaleOf (amaxAt V c (t.val / 18) 17) := by dsimp only [dat1]
theorem after1_7 (c : Dev nD) (t : Fin cfg1.N) :
    (dat1 V c).after 7 t = codesOf (hFull V c (t.val / 18)) (amaxAt V c (t.val / 18) 17) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the launch hands the region is the invariant before the first point. -/
theorem hin1 (c : Dev nD) : Pipeline.ΦA spec1 c ⊢ PhiC V c 0 := by
  rw [PhiA1_eq]; unfold PhiC
  iintro ⟨⟨HR0, HR1, HR2, HR3, HR4, HR5, ⟨%H, HS0⟩, ⟨%A, HS1⟩⟩, Hg⟩
  iexists H; iexists A
  isplitr
  · ipureintro; exact carried_none V c 0 rfl H A
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexact HS0
    iexact HS1
  iexact Hg

/-- The invariant gives the region's buffers back, at any contents. -/
theorem hout1 (c : Dev nD) (n : ℕ) : PhiC V c n ⊢ Pipeline.ΦA spec1 c := by
  rw [PhiA1_eq]; unfold PhiC
  iintro ⟨%H, %A, -, ⟨HR0, HR1, HR2, HR3, HR4, HR5, HS0, HS1⟩, Hg⟩
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    iexists _; iexact HS1
  iexact Hg

end Regions

end Cert.Kernel.Whole

end
-- ==== Proof.WordGateRunA.lean ====
module

public import proofs.«01_k».proof.Proof.WordGateValues
public import Idealize.ShloMosaic.Lib.Pipeline.Value

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first step of a row block: it stores its block of `h` as slab 0 and its lane maxima. -/
theorem runA (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x4608 .fp8e4m3) (harg9 : arg9.IsWhole) (arg10 : Memref sig .tc .vmem S18x512x256 .f32) (harg10 : arg10.IsWhole) (arg11 : Memref sig .tc .vmem S512x128 .f32) (harg11 : arg11.IsWhole) (hc0 : cond0 i) (hc1 : ¬cond1 i) (hc2 : ¬cond2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (y8 : Vec F S512x1 .f32) (y9 : Vec F S512x4608 .fp8e4m3) (H : Vec F S18x512x256 .f32) (A : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare H ∗ owns (c : Thread nD τ) arg11 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare (putSlab i H (hSlab x0 x1 x2 x3 x4 x5)) ∗ owns (c : Thread nD τ) arg11 fullShare (lanes x0 x1 x2 x3 x4 x5)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
    simp only [cc1__gate_up_kernel_eq_skeleton]; unfold cc1__gate_up_kernel_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    subst hf0; subst hf1; subst hf2; subst hf3; subst hf4; subst hf5; subst hf6; subst hf7; subst hfs0; subst hfs1
    sl_exec (disch := first | sl_exact hc0 | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [HS0]
    · iexists _; isplitr
      swap; · iexact HS0
      ipureintro
      exact (View.read_writes_cons_put _ _ _ _ _ rfl).trans (by rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]; rfl)
    iexists _; isplitr
    swap; · iexact HS1
    ipureintro
    refine (View.read_writes_full ..).trans ?_
    unfold k1_pay33 lanes
    rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]
    exact shapeCast_self _ _

end Cert.Kernel.Whole

end
-- ==== Proof.WordGateRunB.lean ====
module

public import proofs.«01_k».proof.Proof.WordGateValues
public import Idealize.ShloMosaic.Lib.Pipeline.Value

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle step: it stores its block of `h` at the step's slab and takes the lane maxima with the carried ones. -/
theorem runB (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x4608 .fp8e4m3) (harg9 : arg9.IsWhole) (arg10 : Memref sig .tc .vmem S18x512x256 .f32) (harg10 : arg10.IsWhole) (arg11 : Memref sig .tc .vmem S512x128 .f32) (harg11 : arg11.IsWhole) (hc0 : ¬cond0 i) (hc1 : cond1 i) (hc2 : ¬cond2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (y8 : Vec F S512x1 .f32) (y9 : Vec F S512x4608 .fp8e4m3) (H : Vec F S18x512x256 .f32) (A : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare H ∗ owns (c : Thread nD τ) arg11 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare (putSlab i H (hSlab x0 x1 x2 x3 x4 x5)) ∗ owns (c : Thread nD τ) arg11 fullShare (maximumf A (lanes x0 x1 x2 x3 x4 x5))) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
    simp only [cc1__gate_up_kernel_eq_skeleton]; unfold cc1__gate_up_kernel_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    subst hf0; subst hf1; subst hf2; subst hf3; subst hf4; subst hf5; subst hf6; subst hf7; subst hfs0; subst hfs1
    sl_exec (disch := first | sl_exact hc0 | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [HS0]
    · iexists _; isplitr
      swap; · iexact HS0
      ipureintro
      exact (View.read_writes_cons_put _ _ _ _ _ rfl).trans (by rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]; rfl)
    iexists _; isplitr
    swap; · iexact HS1
    ipureintro
    refine (View.read_writes_full ..).trans ?_
    unfold k1_pay1 runB.sl.r lanes
    rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]
    rw [View.readAt_full arg11.view fs1 inb_S512x128_S512x128_0_0]
    exact shapeCast_self _ _

end Cert.Kernel.Whole

end
-- ==== Proof.WordGateRunC.lean ====
module

public import proofs.«01_k».proof.Proof.WordGateValues
public import Idealize.ShloMosaic.Lib.Pipeline.Value

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last step: as at a middle one, then it writes the row block's scale and codes from the carried blocks. -/
theorem runC (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x4608 .fp8e4m3) (harg9 : arg9.IsWhole) (arg10 : Memref sig .tc .vmem S18x512x256 .f32) (harg10 : arg10.IsWhole) (arg11 : Memref sig .tc .vmem S512x128 .f32) (harg11 : arg11.IsWhole) (hc0 : ¬cond0 i) (hc1 : cond1 i) (hc2 : cond2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (y8 : Vec F S512x1 .f32) (y9 : Vec F S512x4608 .fp8e4m3) (H : Vec F S18x512x256 .f32) (A : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare H ∗ owns (c : Thread nD τ) arg11 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (scaleOf (maximumf A (lanes x0 x1 x2 x3 x4 x5))) ∗ owns (c : Thread nD τ) arg9 fullShare (codesOf (putSlab i H (hSlab x0 x1 x2 x3 x4 x5)) (maximumf A (lanes x0 x1 x2 x3 x4 x5))) ∗ owns (c : Thread nD τ) arg10 fullShare (putSlab i H (hSlab x0 x1 x2 x3 x4 x5)) ∗ owns (c : Thread nD τ) arg11 fullShare (maximumf A (lanes x0 x1 x2 x3 x4 x5))) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
    simp only [cc1__gate_up_kernel_eq_skeleton]; unfold cc1__gate_up_kernel_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    subst hf0; subst hf1; subst hf2; subst hf3; subst hf4; subst hf5; subst hf6; subst hf7; subst hfs0; subst hfs1
    sl_exec (disch := first | sl_exact hc0 | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    have hH : arg10.view.read (Elt F) (arg10.view.writes (Elt F) fs0 (runC.sl.HS0_1 c i arg2 arg3 arg4 arg5 arg6 arg7 f0 f1 f2 f3 f4 f5))
        = putSlab i (arg10.view.read (Elt F) fs0) (hSlab (arg2.view.read (Elt F) f0) (arg3.view.read (Elt F) f1) (arg4.view.read (Elt F) f2) (arg5.view.read (Elt F) f3) (arg6.view.read (Elt F) f4) (arg7.view.read (Elt F) f5)) := by
      unfold runC.sl.HS0_1
      exact (View.read_writes_cons_put _ _ _ _ _ rfl).trans (by rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]; rfl)
    have hM : k1_pay1 (runC.sl.r c arg2 arg3 arg4 arg5 arg6 arg7 f0 f1 f2 f3 f4 f5) (View.readAt (Elt F) arg11.view (Rect.unit (s := S512x128) ![0, 0] S512x128.size inb_S512x128_S512x128_0_0).toLoadRect fs1)
        = maximumf (arg11.view.read (Elt F) fs1) (lanes (arg2.view.read (Elt F) f0) (arg3.view.read (Elt F) f1) (arg4.view.read (Elt F) f2) (arg5.view.read (Elt F) f3) (arg6.view.read (Elt F) f4) (arg7.view.read (Elt F) f5)) := by
      unfold k1_pay1 runC.sl.r lanes
      rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]
      rw [View.readAt_full arg11.view fs1 inb_S512x128_S512x128_0_0]
      exact shapeCast_self _ _
    have hA : runC.sl.v41 c arg2 arg3 arg4 arg5 arg6 arg7 arg11 f0 f1 f2 f3 f4 f5 fs1
        = maximumf (arg11.view.read (Elt F) fs1) (lanes (arg2.view.read (Elt F) f0) (arg3.view.read (Elt F) f1) (arg4.view.read (Elt F) f2) (arg5.view.read (Elt F) f3) (arg6.view.read (Elt F) f4) (arg7.view.read (Elt F) f5)) := by
      unfold runC.sl.v41 runC.sl.HS1_1
      exact (View.readCov_full arg11.view _ _ _ _).trans hM
    isplitl [H6]
    · iexists _; isplitr
      swap; · iexact H6
      ipureintro
      refine (View.read_writes_full ..).trans ?_
      unfold runC.sl.r_4 runC.sl.r_1 runC.sl.r_2 runC.sl.r_3
      rw [hA]; rfl
    isplitl [H7]
    · iexists _; isplitr
      swap; · iexact H7
      ipureintro
      unfold codesOf
      rw [← View.read_writes_eq_canon _ _ _ (codePieces_cover _ _)]
      unfold runC.sl.r_9 runC.sl.r_8 runC.sl.r_7 runC.sl.r_6 runC.sl.r_5 runC.sl.r_1 runC.sl.r_2 runC.sl.r_3 runC.sl.v141 runC.sl.v151 runC.sl.v161 runC.sl.v171 runC.sl.v181 runC.sl.v191 runC.sl.v201 runC.sl.v211 runC.sl.v221 runC.sl.v231 runC.sl.v241 runC.sl.v251 runC.sl.v261 runC.sl.v271 runC.sl.v281 runC.sl.v291 runC.sl.v301 runC.sl.v311
      rw [hA]
      simp only [View.readAt_unit arg10.view _ inb_S18x512x256_S1x512x256_0_0_0 rfl inb_S18x512x256_S1x512x256_0_0_0, View.readAt_unit arg10.view _ inb_S18x512x256_S1x512x256_1_0_0 rfl inb_S18x512x256_S1x512x256_1_0_0, View.readAt_unit arg10.view _ inb_S18x512x256_S1x512x256_2_0_0 rfl inb_S18x512x256_S1x512x256_2_0_0, View.readAt_unit arg10.view _ inb_S18x512x256_S1x512x256_3_0_0 rfl inb_S18x512x256_S1x512x256_3_0_0, View.readAt_unit arg10.view _ inb_S18x512x256_S1x512x256_4_0_0 rfl inb_S18x512x256_S1x512x256_4_0_0, View.readAt_unit arg10.view _ inb_S18x512x256_S1x512x256_5_0_0 rfl inb_S18x512x256_S1x512x256_5_0_0, View.readAt_unit arg10.view _ inb_S18x512x256_S1x512x256_6_0_0 rfl inb_S18x512x256_S1x512x256_6_0_0, View.readAt_unit arg10.view _ inb_S18x512x256_S1x512x256_7_0_0 rfl inb_S18x512x256_S1x512x256_7_0_0, View.readAt_unit arg10.view _ inb_S18x512x256_S1x512x256_8_0_0 rfl inb_S18x512x256_S1x512x256_8_0_0, View.readAt_unit arg10.view _ inb_S18x512x256_S1x512x256_9_0_0 rfl inb_S18x512x256_S1x512x256_9_0_0, View.readAt_unit arg10.view _ inb_S18x512x256_S1x512x256_10_0_0 rfl inb_S18x512x256_S1x512x256_10_0_0, View.readAt_unit arg10.view _ inb_S18x512x256_S1x512x256_11_0_0 rfl inb_S18x512x256_S1x512x256_11_0_0, View.readAt_unit arg10.view _ inb_S18x512x256_S1x512x256_12_0_0 rfl inb_S18x512x256_S1x512x256_12_0_0, View.readAt_unit arg10.view _ inb_S18x512x256_S1x512x256_13_0_0 rfl inb_S18x512x256_S1x512x256_13_0_0, View.readAt_unit arg10.view _ inb_S18x512x256_S1x512x256_14_0_0 rfl inb_S18x512x256_S1x512x256_14_0_0, View.readAt_unit arg10.view _ inb_S18x512x256_S1x512x256_15_0_0 rfl inb_S18x512x256_S1x512x256_15_0_0, View.readAt_unit arg10.view _ inb_S18x512x256_S1x512x256_16_0_0 rfl inb_S18x512x256_S1x512x256_16_0_0, View.readAt_unit arg10.view _ inb_S18x512x256_S1x512x256_17_0_0 rfl inb_S18x512x256_S1x512x256_17_0_0]
      rw [hH]
      rfl
    isplitl [HS0]
    · iexists _; isplitr
      swap; · iexact HS0
      ipureintro
      exact hH
    iexists _; isplitr
    swap; · iexact HS1
    ipureintro
    exact (View.read_writes_full ..).trans hM

end Cert.Kernel.Whole

end
-- ==== Proof.WordGateBody.lean ====
module

public import proofs.«01_k».proof.Proof.WordGateDat
public import proofs.«01_k».proof.Proof.WordGateRunA
public import proofs.«01_k».proof.Proof.WordGateRunB
public import proofs.«01_k».proof.Proof.WordGateRunC

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
/-- The body at a first step. -/
theorem sound_body1_A (c : Dev nD) (t : Fin cfg1.N) (h0 : t.val % 18 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = PhiC V c t.val from rfl, show (dat1 V c).Φ t.succ = PhiC V c (t.val + 1) from rfl]
  unfold PhiC
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  rw [Dat.leavesExact_idle (dat1 V c) 6 t (idleAt1_6 t (fun h => absurd ((hcond2 t).mp h) (by omega))) (noFlush1_6 t (fun h => absurd ((hcond2 t).mp h) (by omega)))]
  rw [Dat.leavesExact_idle (dat1 V c) 7 t (idleAt1_7 t (fun h => absurd ((hcond2 t).mp h) (by omega))) (noFlush1_7 t (fun h => absurd ((hcond2 t).mp h) (by omega)))]
  iintro ⟨⟨%H, %A, %hC, ⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hn := carried_first V c t h0 H
  have hr := runA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond0 t).mpr h0) (fun h => (hcond1 t).mp h h0) (fun h => absurd ((hcond2 t).mp h) (by omega)) (iblk1 V c 0 t) (iblk1 V c 1 t) (iblk1 V c 2 t) (iblk1 V c 3 t) (iblk1 V c 4 t) (iblk1 V c 5 t) ((dat1 V c).before 6 t d6) ((dat1 V c).before 7 t d7) H A Set.univ
  rw [hAt_pt, laneAt_pt] at hr
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 Hg]
  · iexists _; iexists _
    isplitr
    · ipureintro; exact hn
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a middle step. -/
theorem sound_body1_B (c : Dev nD) (t : Fin cfg1.N) (h0 : ¬ t.val % 18 = 0) (h2 : ¬ t.val % 18 = 17) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = PhiC V c t.val from rfl, show (dat1 V c).Φ t.succ = PhiC V c (t.val + 1) from rfl]
  unfold PhiC
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  rw [Dat.leavesExact_idle (dat1 V c) 6 t (idleAt1_6 t (fun h => h2 ((hcond2 t).mp h))) (noFlush1_6 t (fun h => h2 ((hcond2 t).mp h)))]
  rw [Dat.leavesExact_idle (dat1 V c) 7 t (idleAt1_7 t (fun h => h2 ((hcond2 t).mp h))) (noFlush1_7 t (fun h => h2 ((hcond2 t).mp h)))]
  iintro ⟨⟨%H, %A, %hC, ⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hn := carried_mid V c t h0 h2 H A hC
  have hr := runB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond0 t).mp h)) ((hcond1 t).mpr h0) (fun h => h2 ((hcond2 t).mp h)) (iblk1 V c 0 t) (iblk1 V c 1 t) (iblk1 V c 2 t) (iblk1 V c 3 t) (iblk1 V c 4 t) (iblk1 V c 5 t) ((dat1 V c).before 6 t d6) ((dat1 V c).before 7 t d7) H A Set.univ
  rw [hAt_pt, laneAt_pt] at hr
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 Hg]
  · iexists _; iexists _
    isplitr
    · ipureintro; exact hn
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a last step. -/
theorem sound_body1_C (c : Dev nD) (t : Fin cfg1.N) (h0 : ¬ t.val % 18 = 0) (h2 : t.val % 18 = 17) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = PhiC V c t.val from rfl, show (dat1 V c).Φ t.succ = PhiC V c (t.val + 1) from rfl]
  unfold PhiC
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  rw [show (dat1 V c).leavesExact 6 t = owns (c : Thread nD τ) (ms1_6 t) fullShare ((dat1 V c).after 6 t) from by
      unfold Dat.leavesExact; rw [lastAt1_6 t ((hcond2 t).mpr h2)], after1_6]
  rw [show (dat1 V c).leavesExact 7 t = owns (c : Thread nD τ) (ms1_7 t) fullShare ((dat1 V c).after 7 t) from by
      unfold Dat.leavesExact; rw [lastAt1_7 t ((hcond2 t).mpr h2)], after1_7]
  iintro ⟨⟨%H, %A, %hC, ⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hF := full_last V c t h2 H A hC
  have hM : maximumf A (laneAt V c t.val) = amaxAt V c (t.val / 18) 17 := (amax_step V c t h0 A hC.2).trans (by rw [h2])
  have hn : Carried V c (t.val + 1) (hFull V c (t.val / 18)) (amaxAt V c (t.val / 18) 17) := carried_none V c _ (by omega) _ _
  have hr := runC c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond0 t).mp h)) ((hcond1 t).mpr h0) ((hcond2 t).mpr h2) (iblk1 V c 0 t) (iblk1 V c 1 t) (iblk1 V c 2 t) (iblk1 V c 3 t) (iblk1 V c 4 t) (iblk1 V c 5 t) ((dat1 V c).before 6 t d6) ((dat1 V c).before 7 t d7) H A Set.univ
  rw [hAt_pt, laneAt_pt] at hr
  rw [hF, hM] at hr
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 Hg]
  · iexists _; iexists _
    isplitr
    · ipureintro; exact hn
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 18 = 0
  · exact sound_body1_A V c t h0
  by_cases h2 : t.val % 18 = 17
  · exact sound_body1_C V c t h0 h2
  · exact sound_body1_B V c t h0 h2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl
end Regions

end Cert.Kernel.Whole

end
-- ==== Proof.WordRun.lean ====
module

public import proofs.«01_k».proof.Proof.WordQuant
public import proofs.«01_k».proof.Proof.WordGateBody
public import Idealize.ShloMosaic.Lib.Pipeline.RegionsLoop
public import Idealize.ShloMosaic.Lib.Pipeline.FrameSuffix

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiC (V2 m ρ) c 0 from rfl]
    have h := hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = PhiC (V2 m ρ) c (Fin.last cfg1.N).val from rfl]
    have h := hout1 (V2 m ρ) c (Fin.last cfg1.N).val
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the kit's implicit arguments are found by unifying its conclusion with this one, which takes unfolding plain definitions
set_option backward.isDefEq.respectTransparency.types false in
/-- The whole run: from any memory with zero counters it terminates, nothing faulting, and every final state has each
    unscoped buffer at the contents the fold through the program names, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

/-- The frame: the argument arrays end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h =>
    ⟨fun c => ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩, h.2⟩) (run_all m ρ)

end Cert.Kernel.Whole

end
-- ==== Proof.GateValues.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of the second kernel's body -/

/-- The block of `h` a grid point computes: the gate and up products, each scaled by row and column, and their
    combination `gate * logistic gate * up`, as the one slab the point stores. -/
def hSlab (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) : FVec F S1x512x256 .f32 := k1_pay31 x0 x1 x2 x4 x3 x5

/-- The largest magnitude of the block per row and lane, over its two halves of 128 lanes. -/
def lanes (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) : FVec F S512x128 .f32 := k1_pay32 x0 x1 x2 x4 x3 x5

/-- Slab `k` of the carried blocks. -/
def slab (H : Vec F S18x512x256 .f32) (k : ℕ) (inb : ∀ a, (![k, 0, 0] : Fin 3 → ℕ) a + S1x512x256.size a ≤ S18x512x256.size a) : Vec F S1x512x256 .f32 :=
  VecWindow.window H ![k, 0, 0] S1x512x256.size inb

/-- The carried blocks with one slab put at the point's step. -/
def putSlab (i : grid1.Coords) (H : Vec F S18x512x256 .f32) (v : FVec F S1x512x256 .f32) : Vec F S18x512x256 .f32 :=
  VecWindow.put H (k1_off1 i) S1x512x256.size v

/-- The power-of-two exponent of each row, from the lane maxima. -/
def expoOf (A : Vec F S512x128 .f32) : IVec S512x1 32 := k1_pay10 (k1_pay5 A) (k1_pay6 A) (k1_pay7 A) 23#32

/-- The row scale written out. -/
def scaleOf (A : Vec F S512x128 .f32) : FVec F S512x1 .f32 := k1_pay9 (k1_pay5 A) (k1_pay6 A) (k1_pay7 A) 23#32

/-- The reciprocal of the row scale. -/
def negScale (A : Vec F S512x128 .f32) : FVec F S512x1 .f32 := k1_pay12 (F := F) (expoOf A) k1_pay11

/-- The codes of one row block, from its carried blocks and its lane maxima: one piece per slab, the last first. -/
def codePieces (H : Vec F S18x512x256 .f32) (A : Vec F S512x128 .f32) : List (View.Piece (Elt F) S512x4608 .fp8e4m3) :=
  [ ⟨Rect.unit (s := S512x4608) ![0, 4352] S512x256.size inb_S512x4608_S512x256_0_4352, k1_pay4 (negScale A) (slab H 17 inb_S18x512x256_S1x512x256_17_0_0)⟩,
    ⟨Rect.unit (s := S512x4608) ![0, 4096] S512x256.size inb_S512x4608_S512x256_0_4096, k1_pay3 (negScale A) (slab H 16 inb_S18x512x256_S1x512x256_16_0_0)⟩,
    ⟨Rect.unit (s := S512x4608) ![0, 3840] S512x256.size inb_S512x4608_S512x256_0_3840, k1_pay2 (k1_pay29 (negScale A) (slab H 15 inb_S18x512x256_S1x512x256_15_0_0)) (Scalar.ofBits .f32 0xC3E00000#32) (Scalar.ofBits .f32 0x43E00000#32)⟩,
    ⟨Rect.unit (s := S512x4608) ![0, 3584] S512x256.size inb_S512x4608_S512x256_0_3584, k1_pay28 (negScale A) (slab H 14 inb_S18x512x256_S1x512x256_14_0_0)⟩,
    ⟨Rect.unit (s := S512x4608) ![0, 3328] S512x256.size inb_S512x4608_S512x256_0_3328, k1_pay27 (negScale A) (slab H 13 inb_S18x512x256_S1x512x256_13_0_0)⟩,
    ⟨Rect.unit (s := S512x4608) ![0, 3072] S512x256.size inb_S512x4608_S512x256_0_3072, k1_pay26 (negScale A) (slab H 12 inb_S18x512x256_S1x512x256_12_0_0)⟩,
    ⟨Rect.unit (s := S512x4608) ![0, 2816] S512x256.size inb_S512x4608_S512x256_0_2816, k1_pay25 (negScale A) (slab H 11 inb_S18x512x256_S1x512x256_11_0_0)⟩,
    ⟨Rect.unit (s := S512x4608) ![0, 2560] S512x256.size inb_S512x4608_S512x256_0_2560, k1_pay24 (negScale A) (slab H 10 inb_S18x512x256_S1x512x256_10_0_0)⟩,
    ⟨Rect.unit (s := S512x4608) ![0, 2304] S512x256.size inb_S512x4608_S512x256_0_2304, k1_pay23 (negScale A) (slab H 9 inb_S18x512x256_S1x512x256_9_0_0)⟩,
    ⟨Rect.unit (s := S512x4608) ![0, 2048] S512x256.size inb_S512x4608_S512x256_0_2048, k1_pay22 (negScale A) (slab H 8 inb_S18x512x256_S1x512x256_8_0_0)⟩,
    ⟨Rect.unit (s := S512x4608) ![0, 1792] S512x256.size inb_S512x4608_S512x256_0_1792, k1_pay21 (negScale A) (slab H 7 inb_S18x512x256_S1x512x256_7_0_0)⟩,
    ⟨Rect.unit (s := S512x4608) ![0, 1536] S512x256.size inb_S512x4608_S512x256_0_1536, k1_pay20 (negScale A) (slab H 6 inb_S18x512x256_S1x512x256_6_0_0)⟩,
    ⟨Rect.unit (s := S512x4608) ![0, 1280] S512x256.size inb_S512x4608_S512x256_0_1280, k1_pay19 (k1_pay18 (negScale A) (slab H 5 inb_S18x512x256_S1x512x256_5_0_0)) (Scalar.ofBits .f32 0xC3E00000#32) (Scalar.ofBits .f32 0x43E00000#32)⟩,
    ⟨Rect.unit (s := S512x4608) ![0, 1024] S512x256.size inb_S512x4608_S512x256_0_1024, k1_pay17 (negScale A) (slab H 4 inb_S18x512x256_S1x512x256_4_0_0)⟩,
    ⟨Rect.unit (s := S512x4608) ![0, 768] S512x256.size inb_S512x4608_S512x256_0_768, k1_pay16 (negScale A) (slab H 3 inb_S18x512x256_S1x512x256_3_0_0)⟩,
    ⟨Rect.unit (s := S512x4608) ![0, 512] S512x256.size inb_S512x4608_S512x256_0_512, k1_pay15 (negScale A) (slab H 2 inb_S18x512x256_S1x512x256_2_0_0)⟩,
    ⟨Rect.unit (s := S512x4608) ![0, 256] S512x256.size inb_S512x4608_S512x256_0_256, k1_pay14 (expoOf A) k1_pay11 (slab H 1 inb_S18x512x256_S1x512x256_1_0_0)⟩,
    ⟨Rect.unit (s := S512x4608) ![0, 0] S512x256.size inb_S512x4608_S512x256_0_0, k1_pay13 (expoOf A) k1_pay11 (slab H 0 inb_S18x512x256_S1x512x256_0_0_0)⟩ ]

def codesOf (H : Vec F S18x512x256 .f32) (A : Vec F S512x128 .f32) : Vec F S512x4608 .fp8e4m3 := View.canon (codePieces H A)

/-- The pieces tile the row block. -/
theorem codePieces_cover (H : Vec F S18x512x256 .f32) (A : Vec F S512x128 .f32) (y : S512x4608.Idx) :
    ∃ pc ∈ codePieces H A, y ∈ pc.1.set :=
  View.cover_of_tiledL (codePieces H A) S512x256.size (by sl_kernel_rfl) y

/-! ## The body's branch conditions -/

/-- The first step of a row block: `j == 0`. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 18 = 0 :=
  (by decide +kernel : ∀ t : Fin grid1.N, cond0 (grid1.coords t) ↔ t.val % 18 = 0)
/-- A later step: `j > 0`. -/
abbrev cond1 (i : grid1.Coords) : Prop := (Scalar.cmpi .ne (Scalar.extui (Scalar.cmpi .sgt (BitVec.ofNat 32 (i 1).val) 0#32)) 0#32) = 1#1
theorem hcond1 : ∀ t : Fin cfg1.N, cond1 (grid1.coords t) ↔ ¬ t.val % 18 = 0 :=
  (by decide +kernel : ∀ t : Fin grid1.N, cond1 (grid1.coords t) ↔ ¬ t.val % 18 = 0)
/-- The last step: `j == 17`. -/
abbrev cond2 (i : grid1.Coords) : Prop := k1_cond3 i = 1#1
theorem hcond2 : ∀ t : Fin cfg1.N, cond2 (grid1.coords t) ↔ t.val % 18 = 17 :=
  (by decide +kernel : ∀ t : Fin grid1.N, cond2 (grid1.coords t) ↔ t.val % 18 = 17)

end Cert.KernelIdeal.Whole

end
-- ==== Proof.Quant.lean ====
module

public import proofs.«01_k».proof.Proof.GateValues
public import Idealize.ShloMosaic.Lib.Pipeline.FrameBody
public import Idealize.ShloMosaic.Lib.Pipeline.Value

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # The first call: the rows of `x` are quantised, one block of rows per grid point -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay7` …, after `k0_pay6`), so that
    `out0_W` and the values after it name it instead of spelling it out (`unfold_out out0_W` opens a canon
    with them, `unfold_payloads` opens them with the payloads); the comment after each is the printed function's
    name for the value (a count appended where that name is bound again). -/

def k0_pay7 (x0 : Vec F S256x7168 .bf16) : FVec F S256x1 .f32 :=
  k0_pay3 (View.ld x0 r0_0) -- `v7`
def k0_pay8 (x0 : Vec F S256x7168 .bf16) : IVec S256x1 32 :=
  k0_pay4 (View.ld x0 r0_0) -- `v43`

/-- Window 1's staging buffer after the body, from the input windows' blocks: its 1 store as pieces, LAST
    FIRST (Lib/Pipeline/FrameBody.lean `View.canon`; the payloads are the skeleton's and the values stated above). -/
def out0_1 (x0 : Vec F S256x7168 .bf16) : Vec F S256x7168 .fp8e4m3 :=
  View.canon [⟨r0_0, k0_pay1 (k0_pay2 (View.ld x0 r0_0)) (k0_pay5 (k0_pay7 x0) (k0_pay8 x0)) 0#32⟩]

/-- Its stores tile the buffer (checked by evaluation), so they cover it. -/
theorem cover0_1 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

/-- Window 2's staging buffer after the body, from the input windows' blocks: its 1 store as pieces, LAST
    FIRST (Lib/Pipeline/FrameBody.lean `View.canon`; the payloads are the skeleton's and the values stated above). -/
def out0_2 (x0 : Vec F S256x7168 .bf16) : Vec F S256x1 .f32 :=
  View.canon [⟨r0_1, k0_pay6 (k0_pay7 x0) (k0_pay8 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x7168 .bf16) (harg1 : arg1.IsWhole) (arg2 : Memref sig .tc .vmem S256x7168 .fp8e4m3) (harg2 : arg2.IsWhole) (arg3 : Memref sig .tc .vmem S256x1 .f32) (harg3 : arg3.IsWhole)
    (x0 : Vec F S256x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_x_kernel i arg1 harg1 arg2 harg2 arg3 harg3) K := by
  simp only [cc0__quant_x_kernel_eq_skeleton]; unfold cc0__quant_x_kernel_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.GateBlocks.lean ====
module

public import proofs.«01_k».proof.Proof.GateValues
public import Idealize.ShloMosaic.Lib.Pipeline.FrameBody

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## Where the outputs are idle: every step but a row block's last -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem idleAt1_6 : ∀ t : Fin cfg1.N, ¬cond2 (grid1.coords t) → cfg1.idle 6 (grid1.coords t) = true := by decide +kernel
theorem noFlush1_6 : ∀ t : Fin cfg1.N, ¬cond2 (grid1.coords t) → (cfg1.win 6).flush t = false := by decide +kernel
theorem lastAt1_6 : ∀ t : Fin cfg1.N, cond2 (grid1.coords t) → cfg1.idle 6 (grid1.coords t) = false := by decide +kernel
theorem idleAt1_7 : ∀ t : Fin cfg1.N, ¬cond2 (grid1.coords t) → cfg1.idle 7 (grid1.coords t) = true := by decide +kernel
theorem noFlush1_7 : ∀ t : Fin cfg1.N, ¬cond2 (grid1.coords t) → (cfg1.win 7).flush t = false := by decide +kernel
theorem lastAt1_7 : ∀ t : Fin cfg1.N, cond2 (grid1.coords t) → cfg1.idle 7 (grid1.coords t) = false := by decide +kernel

/-! ## The staging memrefs of a point and the scratch buffers -/

abbrev ms1_0 (t : Fin cfg1.N) : Memref sig .tc .vmem S512x7168 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S7168x256 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x4608 .fp8e4m3 := win1_7.stage (cfg1.slots t 7)
abbrev hs1_7 (t : Fin cfg1.N) : (ms1_7 t).IsWhole := hstage1_7 ((cfg1.slots t 7).cast nbuf1_7)
/-- The scratch buffers: the blocks of `h` of the row block, and the lane maxima. -/
abbrev scM1_0 : Memref sig .tc .vmem S18x512x256 .f32 := Memref.whole cc1_scratch0
abbrev scM1_1 : Memref sig .tc .vmem S512x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Regions

end Cert.KernelIdeal.Whole

end
-- ==== Proof.GateDat.lean ====
module

public import proofs.«01_k».proof.Proof.GateBlocks
public import Idealize.ShloMosaic.Lib.Pipeline.Value
public import Idealize.ShloMosaic.Lib.ValueIdxCore

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## What the scratch buffers hold -/

/-- Position `n` as a grid point. -/
def pt (n : ℕ) : Fin cfg1.N := ⟨n % 108, lt_of_lt_of_eq (Nat.mod_lt n (by omega)) N_1.symm⟩

theorem pt_val (t : Fin cfg1.N) : pt t.val = t :=
  Fin.ext (Nat.mod_eq_of_lt (lt_of_lt_of_eq t.isLt N_1))

/-- The block of `h` of position `n`. -/
def hAt (c : Dev nD) (n : ℕ) : FVec F S1x512x256 .f32 := hSlab (iblk1 V c 0 (pt n)) (iblk1 V c 1 (pt n)) (iblk1 V c 2 (pt n)) (iblk1 V c 3 (pt n)) (iblk1 V c 4 (pt n)) (iblk1 V c 5 (pt n))

/-- The lane maxima of the block of position `n`. -/
def laneAt (c : Dev nD) (n : ℕ) : FVec F S512x128 .f32 := lanes (iblk1 V c 0 (pt n)) (iblk1 V c 1 (pt n)) (iblk1 V c 2 (pt n)) (iblk1 V c 3 (pt n)) (iblk1 V c 4 (pt n)) (iblk1 V c 5 (pt n))

/-- The lane maxima over the steps 0 … `k` of row block `b`. -/
def amaxAt (c : Dev nD) (b : ℕ) : ℕ → FVec F S512x128 .f32
  | 0 => laneAt V c (18 * b)
  | k + 1 => maximumf (amaxAt c b k) (laneAt V c (18 * b + (k + 1)))

/-- An index of the carried blocks within its slab. -/
def inSlab (y : S18x512x256.Idx) : S1x512x256.Idx := ValueIdx.ix3 (0 : Fin 1) (y 1) (y 2)

/-- All the blocks of `h` of row block `b`. -/
def hFull (c : Dev nD) (b : ℕ) : Vec F S18x512x256 .f32 := fun y => hAt V c (18 * b + (y 0).val) (inSlab y)

/-- What is known of the scratch buffers before position `n`: the slabs of the row block's steps done hold their blocks,
    and the lane maxima are those over these steps. -/
def Carried (c : Dev nD) (n : ℕ) (H : Vec F S18x512x256 .f32) (A : Vec F S512x128 .f32) : Prop :=
  (∀ y : S18x512x256.Idx, (y 0).val < n % 18 → H y = hAt V c (18 * (n / 18) + (y 0).val) (inSlab y))
    ∧ ∀ k, n % 18 = k + 1 → A = amaxAt V c (n / 18) k

theorem off1_val : ∀ (t : Fin cfg1.N) (a : Fin 3), k1_off1 (grid1.coords t) a = if a = 0 then t.val % 18 else 0 :=
  (by decide +kernel : ∀ (t : Fin grid1.N) (a : Fin 3), k1_off1 (grid1.coords t) a = if a = 0 then t.val % 18 else 0)

/-- The step's slab put among the carried blocks, read back. -/
theorem putSlab_apply (t : Fin cfg1.N) (H : Vec F S18x512x256 .f32) (v : FVec F S1x512x256 .f32) (y : S18x512x256.Idx) :
    putSlab (grid1.coords t) H v y = if (y 0).val = t.val % 18 then v (inSlab y) else H y := by
  unfold putSlab VecWindow.put
  have e0 : k1_off1 (grid1.coords t) 0 = t.val % 18 := off1_val t 0
  have e1 : k1_off1 (grid1.coords t) 1 = 0 := off1_val t 1
  have e2 : k1_off1 (grid1.coords t) 2 = 0 := off1_val t 2
  have b1 : (y 1).val < 512 := (y 1).isLt
  have b2 : (y 2).val < 256 := (y 2).isLt
  by_cases h : (y 0).val = t.val % 18
  · have hp : ∀ a, k1_off1 (grid1.coords t) a ≤ (y a).val ∧ (y a).val < k1_off1 (grid1.coords t) a + S1x512x256.size a := by
      intro a
      fin_cases a
      · show k1_off1 (grid1.coords t) 0 ≤ (y 0).val ∧ (y 0).val < k1_off1 (grid1.coords t) 0 + 1
        omega
      · show k1_off1 (grid1.coords t) 1 ≤ (y 1).val ∧ (y 1).val < k1_off1 (grid1.coords t) 1 + 512
        omega
      · show k1_off1 (grid1.coords t) 2 ≤ (y 2).val ∧ (y 2).val < k1_off1 (grid1.coords t) 2 + 256
        omega
    rw [dif_pos hp, if_pos h]
    refine congrArg v (funext fun a => Fin.ext ?_)
    fin_cases a
    · show (y 0).val - k1_off1 (grid1.coords t) 0 = 0
      omega
    · show (y 1).val - k1_off1 (grid1.coords t) 1 = (y 1).val
      omega
    · show (y 2).val - k1_off1 (grid1.coords t) 2 = (y 2).val
      omega
  · rw [if_neg h, dif_neg]
    intro hp
    have h0 : k1_off1 (grid1.coords t) 0 ≤ (y 0).val ∧ (y 0).val < k1_off1 (grid1.coords t) 0 + 1 := hp 0
    omega

theorem hAt_pt (c : Dev nD) (t : Fin cfg1.N) : hSlab (iblk1 V c 0 t) (iblk1 V c 1 t) (iblk1 V c 2 t) (iblk1 V c 3 t) (iblk1 V c 4 t) (iblk1 V c 5 t) = hAt V c t.val := by
  unfold hAt; rw [pt_val]
theorem laneAt_pt (c : Dev nD) (t : Fin cfg1.N) : lanes (iblk1 V c 0 t) (iblk1 V c 1 t) (iblk1 V c 2 t) (iblk1 V c 3 t) (iblk1 V c 4 t) (iblk1 V c 5 t) = laneAt V c t.val := by
  unfold laneAt; rw [pt_val]

/-- A first step: whatever the buffers held. -/
theorem carried_first (c : Dev nD) (t : Fin cfg1.N) (h0 : t.val % 18 = 0) (H : Vec F S18x512x256 .f32) :
    Carried V c (t.val + 1) (putSlab (grid1.coords t) H (hAt V c t.val)) (laneAt V c t.val) := by
  have hd : 18 * ((t.val + 1) / 18) = t.val := by omega
  refine ⟨fun y hy => ?_, fun k hk => ?_⟩
  · rw [putSlab_apply, if_pos (by omega), show 18 * ((t.val + 1) / 18) + (y 0).val = t.val by omega]
  · obtain rfl : k = 0 := by omega
    show _ = laneAt V c _
    rw [hd]

/-- The lane maxima after a later step. -/
theorem amax_step (c : Dev nD) (t : Fin cfg1.N) (h0 : ¬ t.val % 18 = 0) (A : Vec F S512x128 .f32)
    (hA : ∀ k, t.val % 18 = k + 1 → A = amaxAt V c (t.val / 18) k) :
    maximumf A (laneAt V c t.val) = amaxAt V c (t.val / 18) (t.val % 18) := by
  obtain ⟨k, hk⟩ : ∃ k, t.val % 18 = k + 1 := ⟨t.val % 18 - 1, by omega⟩
  rw [hA k hk, hk]
  show _ = maximumf (amaxAt V c (t.val / 18) k) (laneAt V c (18 * (t.val / 18) + (k + 1)))
  rw [show 18 * (t.val / 18) + (k + 1) = t.val by omega]

/-- A middle step. -/
theorem carried_mid (c : Dev nD) (t : Fin cfg1.N) (h0 : ¬ t.val % 18 = 0) (h2 : ¬ t.val % 18 = 17) (H : Vec F S18x512x256 .f32)
    (A : Vec F S512x128 .f32) (h : Carried V c t.val H A) :
    Carried V c (t.val + 1) (putSlab (grid1.coords t) H (hAt V c t.val)) (maximumf A (laneAt V c t.val)) := by
  have hd : (t.val + 1) / 18 = t.val / 18 := by omega
  refine ⟨fun y hy => ?_, fun k hk => ?_⟩
  · rw [putSlab_apply, hd]
    by_cases hy0 : (y 0).val = t.val % 18
    · rw [if_pos hy0, show 18 * (t.val / 18) + (y 0).val = t.val by omega]
    · rw [if_neg hy0, h.1 y (by omega)]
  · rw [amax_step V c t h0 A h.2, hd, show k = t.val % 18 by omega]

/-- At the last step every slab is in place. -/
theorem full_last (c : Dev nD) (t : Fin cfg1.N) (h2 : t.val % 18 = 17) (H : Vec F S18x512x256 .f32)
    (A : Vec F S512x128 .f32) (h : Carried V c t.val H A) :
    putSlab (grid1.coords t) H (hAt V c t.val) = hFull V c (t.val / 18) := by
  funext y
  have hy : (y 0).val < 18 := (y 0).isLt
  rw [putSlab_apply]
  unfold hFull
  by_cases hy0 : (y 0).val = t.val % 18
  · rw [if_pos hy0, show 18 * (t.val / 18) + (y 0).val = t.val by omega]
  · rw [if_neg hy0, h.1 y (by omega)]

theorem carried_none (c : Dev nD) (n : ℕ) (h : n % 18 = 0) (H : Vec F S18x512x256 .f32) (A : Vec F S512x128 .f32) : Carried V c n H A :=
  ⟨fun y hy => by omega, fun k hk => by omega⟩

/-! ## The second call's proof data -/

/-- The region's invariant before position `n`. -/
def PhiC (c : Dev nD) (n : ℕ) : sProp 𝕄 :=
  iprop(∃ H A, ⌜Carried V c n H A⌝ ∗ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare H ∗ owns (c : Thread nD τ) scM1_1 fullShare A) ∗ (∃ r, prngReg c r)))

/-- The proof data of the second call: the arrays as the region finds them; after the body each input's buffer at its
    block, the scale's and the codes' at the row block's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => scaleOf (amaxAt V c (t.val / 18) 17)
    | ⟨7, _⟩ => codesOf (hFull V c (t.val / 18)) (amaxAt V c (t.val / 18) 17)
  Φ n := PhiC V c n.val
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = scaleOf (amaxAt V c (t.val / 18) 17) := by dsimp only [dat1]
theorem after1_7 (c : Dev nD) (t : Fin cfg1.N) :
    (dat1 V c).after 7 t = codesOf (hFull V c (t.val / 18)) (amaxAt V c (t.val / 18) 17) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the launch hands the region is the invariant before the first point. -/
theorem hin1 (c : Dev nD) : Pipeline.ΦA spec1 c ⊢ PhiC V c 0 := by
  rw [PhiA1_eq]; unfold PhiC
  iintro ⟨⟨HR0, HR1, HR2, HR3, HR4, HR5, ⟨%H, HS0⟩, ⟨%A, HS1⟩⟩, Hg⟩
  iexists H; iexists A
  isplitr
  · ipureintro; exact carried_none V c 0 rfl H A
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexact HS0
    iexact HS1
  iexact Hg

/-- The invariant gives the region's buffers back, at any contents. -/
theorem hout1 (c : Dev nD) (n : ℕ) : PhiC V c n ⊢ Pipeline.ΦA spec1 c := by
  rw [PhiA1_eq]; unfold PhiC
  iintro ⟨%H, %A, -, ⟨HR0, HR1, HR2, HR3, HR4, HR5, HS0, HS1⟩, Hg⟩
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    iexists _; iexact HS1
  iexact Hg

end Regions

end Cert.KernelIdeal.Whole

end
-- ==== Proof.GateRunA.lean ====
module

public import proofs.«01_k».proof.Proof.GateValues
public import Idealize.ShloMosaic.Lib.Pipeline.Value

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first step of a row block: it stores its block of `h` as slab 0 and its lane maxima. -/
theorem runA (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x4608 .fp8e4m3) (harg9 : arg9.IsWhole) (arg10 : Memref sig .tc .vmem S18x512x256 .f32) (harg10 : arg10.IsWhole) (arg11 : Memref sig .tc .vmem S512x128 .f32) (harg11 : arg11.IsWhole) (hc0 : cond0 i) (hc1 : ¬cond1 i) (hc2 : ¬cond2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (y8 : Vec F S512x1 .f32) (y9 : Vec F S512x4608 .fp8e4m3) (H : Vec F S18x512x256 .f32) (A : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare H ∗ owns (c : Thread nD τ) arg11 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare (putSlab i H (hSlab x0 x1 x2 x3 x4 x5)) ∗ owns (c : Thread nD τ) arg11 fullShare (lanes x0 x1 x2 x3 x4 x5)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
    simp only [cc1__gate_up_kernel_eq_skeleton]; unfold cc1__gate_up_kernel_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    subst hf0; subst hf1; subst hf2; subst hf3; subst hf4; subst hf5; subst hf6; subst hf7; subst hfs0; subst hfs1
    sl_exec (disch := first | sl_exact hc0 | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [HS0]
    · iexists _; isplitr
      swap; · iexact HS0
      ipureintro
      exact (View.read_writes_cons_put _ _ _ _ _ rfl).trans (by rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]; rfl)
    iexists _; isplitr
    swap; · iexact HS1
    ipureintro
    refine (View.read_writes_full ..).trans ?_
    unfold k1_pay33 lanes
    rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]
    exact shapeCast_self _ _

end Cert.KernelIdeal.Whole

end
-- ==== Proof.GateRunB.lean ====
module

public import proofs.«01_k».proof.Proof.GateValues
public import Idealize.ShloMosaic.Lib.Pipeline.Value

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle step: it stores its block of `h` at the step's slab and takes the lane maxima with the carried ones. -/
theorem runB (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x4608 .fp8e4m3) (harg9 : arg9.IsWhole) (arg10 : Memref sig .tc .vmem S18x512x256 .f32) (harg10 : arg10.IsWhole) (arg11 : Memref sig .tc .vmem S512x128 .f32) (harg11 : arg11.IsWhole) (hc0 : ¬cond0 i) (hc1 : cond1 i) (hc2 : ¬cond2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (y8 : Vec F S512x1 .f32) (y9 : Vec F S512x4608 .fp8e4m3) (H : Vec F S18x512x256 .f32) (A : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare H ∗ owns (c : Thread nD τ) arg11 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare (putSlab i H (hSlab x0 x1 x2 x3 x4 x5)) ∗ owns (c : Thread nD τ) arg11 fullShare (maximumf A (lanes x0 x1 x2 x3 x4 x5))) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
    simp only [cc1__gate_up_kernel_eq_skeleton]; unfold cc1__gate_up_kernel_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    subst hf0; subst hf1; subst hf2; subst hf3; subst hf4; subst hf5; subst hf6; subst hf7; subst hfs0; subst hfs1
    sl_exec (disch := first | sl_exact hc0 | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [HS0]
    · iexists _; isplitr
      swap; · iexact HS0
      ipureintro
      exact (View.read_writes_cons_put _ _ _ _ _ rfl).trans (by rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]; rfl)
    iexists _; isplitr
    swap; · iexact HS1
    ipureintro
    refine (View.read_writes_full ..).trans ?_
    unfold k1_pay1 runB.sl.r lanes
    rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]
    rw [View.readAt_full arg11.view fs1 inb_S512x128_S512x128_0_0]
    exact shapeCast_self _ _

end Cert.KernelIdeal.Whole

end
-- ==== Proof.GateRunC.lean ====
module

public import proofs.«01_k».proof.Proof.GateValues
public import Idealize.ShloMosaic.Lib.Pipeline.Value

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last step: as at a middle one, then it writes the row block's scale and codes from the carried blocks. -/
theorem runC (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x4608 .fp8e4m3) (harg9 : arg9.IsWhole) (arg10 : Memref sig .tc .vmem S18x512x256 .f32) (harg10 : arg10.IsWhole) (arg11 : Memref sig .tc .vmem S512x128 .f32) (harg11 : arg11.IsWhole) (hc0 : ¬cond0 i) (hc1 : cond1 i) (hc2 : cond2 i)
    (x0 : Vec F S512x7168 .fp8e4m3) (x1 : Vec F S512x1 .f32) (x2 : Vec F S7168x256 .fp8e4m3) (x3 : Vec F S7168x256 .fp8e4m3) (x4 : Vec F S1x256 .f32) (x5 : Vec F S1x256 .f32) (y8 : Vec F S512x1 .f32) (y9 : Vec F S512x4608 .fp8e4m3) (H : Vec F S18x512x256 .f32) (A : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare y9 ∗ owns (c : Thread nD τ) arg10 fullShare H ∗ owns (c : Thread nD τ) arg11 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (scaleOf (maximumf A (lanes x0 x1 x2 x3 x4 x5))) ∗ owns (c : Thread nD τ) arg9 fullShare (codesOf (putSlab i H (hSlab x0 x1 x2 x3 x4 x5)) (maximumf A (lanes x0 x1 x2 x3 x4 x5))) ∗ owns (c : Thread nD τ) arg10 fullShare (putSlab i H (hSlab x0 x1 x2 x3 x4 x5)) ∗ owns (c : Thread nD τ) arg11 fullShare (maximumf A (lanes x0 x1 x2 x3 x4 x5))) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
    simp only [cc1__gate_up_kernel_eq_skeleton]; unfold cc1__gate_up_kernel_skel
    simp only [k1_part8_eq_skeleton, k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    subst hf0; subst hf1; subst hf2; subst hf3; subst hf4; subst hf5; subst hf6; subst hf7; subst hfs0; subst hfs1
    sl_exec (disch := first | sl_exact hc0 | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    have hH : arg10.view.read (Elt F) (arg10.view.writes (Elt F) fs0 (runC.sl.HS0_1 c i arg2 arg3 arg4 arg5 arg6 arg7 f0 f1 f2 f3 f4 f5))
        = putSlab i (arg10.view.read (Elt F) fs0) (hSlab (arg2.view.read (Elt F) f0) (arg3.view.read (Elt F) f1) (arg4.view.read (Elt F) f2) (arg5.view.read (Elt F) f3) (arg6.view.read (Elt F) f4) (arg7.view.read (Elt F) f5)) := by
      unfold runC.sl.HS0_1
      exact (View.read_writes_cons_put _ _ _ _ _ rfl).trans (by rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]; rfl)
    have hM : k1_pay1 (runC.sl.r c arg2 arg3 arg4 arg5 arg6 arg7 f0 f1 f2 f3 f4 f5) (View.readAt (Elt F) arg11.view (Rect.unit (s := S512x128) ![0, 0] S512x128.size inb_S512x128_S512x128_0_0).toLoadRect fs1)
        = maximumf (arg11.view.read (Elt F) fs1) (lanes (arg2.view.read (Elt F) f0) (arg3.view.read (Elt F) f1) (arg4.view.read (Elt F) f2) (arg5.view.read (Elt F) f3) (arg6.view.read (Elt F) f4) (arg7.view.read (Elt F) f5)) := by
      unfold k1_pay1 runC.sl.r lanes
      rw [(View.readAt_full arg2.view f0 inb_S512x7168_S512x7168_0_0), (View.readAt_full arg3.view f1 inb_S512x1_S512x1_0_0), (View.readAt_full arg4.view f2 inb_S7168x256_S7168x256_0_0), (View.readAt_full arg5.view f3 inb_S7168x256_S7168x256_0_0), (View.readAt_full arg6.view f4 inb_S1x256_S1x256_0_0), (View.readAt_full arg7.view f5 inb_S1x256_S1x256_0_0)]
      rw [View.readAt_full arg11.view fs1 inb_S512x128_S512x128_0_0]
      exact shapeCast_self _ _
    have hA : runC.sl.v41 c arg2 arg3 arg4 arg5 arg6 arg7 arg11 f0 f1 f2 f3 f4 f5 fs1
        = maximumf (arg11.view.read (Elt F) fs1) (lanes (arg2.view.read (Elt F) f0) (arg3.view.read (Elt F) f1) (arg4.view.read (Elt F) f2) (arg5.view.read (Elt F) f3) (arg6.view.read (Elt F) f4) (arg7.view.read (Elt F) f5)) := by
      unfold runC.sl.v41 runC.sl.HS1_1
      exact (View.readCov_full arg11.view _ _ _ _).trans hM
    isplitl [H6]
    · iexists _; isplitr
      swap; · iexact H6
      ipureintro
      refine (View.read_writes_full ..).trans ?_
      unfold runC.sl.r_4 runC.sl.r_1 runC.sl.r_2 runC.sl.r_3
      rw [hA]; rfl
    isplitl [H7]
    · iexists _; isplitr
      swap; · iexact H7
      ipureintro
      unfold codesOf
      rw [← View.read_writes_eq_canon _ _ _ (codePieces_cover _ _)]
      unfold runC.sl.r_9 runC.sl.r_8 runC.sl.r_7 runC.sl.r_6 runC.sl.r_5 runC.sl.r_1 runC.sl.r_2 runC.sl.r_3 runC.sl.v141 runC.sl.v151 runC.sl.v161 runC.sl.v171 runC.sl.v181 runC.sl.v191 runC.sl.v201 runC.sl.v211 runC.sl.v221 runC.sl.v231 runC.sl.v241 runC.sl.v251 runC.sl.v261 runC.sl.v271 runC.sl.v281 runC.sl.v291 runC.sl.v301 runC.sl.v311
      rw [hA]
      simp only [View.readAt_unit arg10.view _ inb_S18x512x256_S1x512x256_0_0_0 rfl inb_S18x512x256_S1x512x256_0_0_0, View.readAt_unit arg10.view _ inb_S18x512x256_S1x512x256_1_0_0 rfl inb_S18x512x256_S1x512x256_1_0_0, View.readAt_unit arg10.view _ inb_S18x512x256_S1x512x256_2_0_0 rfl inb_S18x512x256_S1x512x256_2_0_0, View.readAt_unit arg10.view _ inb_S18x512x256_S1x512x256_3_0_0 rfl inb_S18x512x256_S1x512x256_3_0_0, View.readAt_unit arg10.view _ inb_S18x512x256_S1x512x256_4_0_0 rfl inb_S18x512x256_S1x512x256_4_0_0, View.readAt_unit arg10.view _ inb_S18x512x256_S1x512x256_5_0_0 rfl inb_S18x512x256_S1x512x256_5_0_0, View.readAt_unit arg10.view _ inb_S18x512x256_S1x512x256_6_0_0 rfl inb_S18x512x256_S1x512x256_6_0_0, View.readAt_unit arg10.view _ inb_S18x512x256_S1x512x256_7_0_0 rfl inb_S18x512x256_S1x512x256_7_0_0, View.readAt_unit arg10.view _ inb_S18x512x256_S1x512x256_8_0_0 rfl inb_S18x512x256_S1x512x256_8_0_0, View.readAt_unit arg10.view _ inb_S18x512x256_S1x512x256_9_0_0 rfl inb_S18x512x256_S1x512x256_9_0_0, View.readAt_unit arg10.view _ inb_S18x512x256_S1x512x256_10_0_0 rfl inb_S18x512x256_S1x512x256_10_0_0, View.readAt_unit arg10.view _ inb_S18x512x256_S1x512x256_11_0_0 rfl inb_S18x512x256_S1x512x256_11_0_0, View.readAt_unit arg10.view _ inb_S18x512x256_S1x512x256_12_0_0 rfl inb_S18x512x256_S1x512x256_12_0_0, View.readAt_unit arg10.view _ inb_S18x512x256_S1x512x256_13_0_0 rfl inb_S18x512x256_S1x512x256_13_0_0, View.readAt_unit arg10.view _ inb_S18x512x256_S1x512x256_14_0_0 rfl inb_S18x512x256_S1x512x256_14_0_0, View.readAt_unit arg10.view _ inb_S18x512x256_S1x512x256_15_0_0 rfl inb_S18x512x256_S1x512x256_15_0_0, View.readAt_unit arg10.view _ inb_S18x512x256_S1x512x256_16_0_0 rfl inb_S18x512x256_S1x512x256_16_0_0, View.readAt_unit arg10.view _ inb_S18x512x256_S1x512x256_17_0_0 rfl inb_S18x512x256_S1x512x256_17_0_0]
      rw [hH]
      rfl
    isplitl [HS0]
    · iexists _; isplitr
      swap; · iexact HS0
      ipureintro
      exact hH
    iexists _; isplitr
    swap; · iexact HS1
    ipureintro
    exact (View.read_writes_full ..).trans hM

end Cert.KernelIdeal.Whole

end
-- ==== Proof.GateBody.lean ====
module

public import proofs.«01_k».proof.Proof.GateDat
public import proofs.«01_k».proof.Proof.GateRunA
public import proofs.«01_k».proof.Proof.GateRunB
public import proofs.«01_k».proof.Proof.GateRunC

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
/-- The body at a first step. -/
theorem sound_body1_A (c : Dev nD) (t : Fin cfg1.N) (h0 : t.val % 18 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = PhiC V c t.val from rfl, show (dat1 V c).Φ t.succ = PhiC V c (t.val + 1) from rfl]
  unfold PhiC
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  rw [Dat.leavesExact_idle (dat1 V c) 6 t (idleAt1_6 t (fun h => absurd ((hcond2 t).mp h) (by omega))) (noFlush1_6 t (fun h => absurd ((hcond2 t).mp h) (by omega)))]
  rw [Dat.leavesExact_idle (dat1 V c) 7 t (idleAt1_7 t (fun h => absurd ((hcond2 t).mp h) (by omega))) (noFlush1_7 t (fun h => absurd ((hcond2 t).mp h) (by omega)))]
  iintro ⟨⟨%H, %A, %hC, ⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hn := carried_first V c t h0 H
  have hr := runA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond0 t).mpr h0) (fun h => (hcond1 t).mp h h0) (fun h => absurd ((hcond2 t).mp h) (by omega)) (iblk1 V c 0 t) (iblk1 V c 1 t) (iblk1 V c 2 t) (iblk1 V c 3 t) (iblk1 V c 4 t) (iblk1 V c 5 t) ((dat1 V c).before 6 t d6) ((dat1 V c).before 7 t d7) H A Set.univ
  rw [hAt_pt, laneAt_pt] at hr
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 Hg]
  · iexists _; iexists _
    isplitr
    · ipureintro; exact hn
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a middle step. -/
theorem sound_body1_B (c : Dev nD) (t : Fin cfg1.N) (h0 : ¬ t.val % 18 = 0) (h2 : ¬ t.val % 18 = 17) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = PhiC V c t.val from rfl, show (dat1 V c).Φ t.succ = PhiC V c (t.val + 1) from rfl]
  unfold PhiC
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  rw [Dat.leavesExact_idle (dat1 V c) 6 t (idleAt1_6 t (fun h => h2 ((hcond2 t).mp h))) (noFlush1_6 t (fun h => h2 ((hcond2 t).mp h)))]
  rw [Dat.leavesExact_idle (dat1 V c) 7 t (idleAt1_7 t (fun h => h2 ((hcond2 t).mp h))) (noFlush1_7 t (fun h => h2 ((hcond2 t).mp h)))]
  iintro ⟨⟨%H, %A, %hC, ⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hn := carried_mid V c t h0 h2 H A hC
  have hr := runB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond0 t).mp h)) ((hcond1 t).mpr h0) (fun h => h2 ((hcond2 t).mp h)) (iblk1 V c 0 t) (iblk1 V c 1 t) (iblk1 V c 2 t) (iblk1 V c 3 t) (iblk1 V c 4 t) (iblk1 V c 5 t) ((dat1 V c).before 6 t d6) ((dat1 V c).before 7 t d7) H A Set.univ
  rw [hAt_pt, laneAt_pt] at hr
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 Hg]
  · iexists _; iexists _
    isplitr
    · ipureintro; exact hn
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a last step. -/
theorem sound_body1_C (c : Dev nD) (t : Fin cfg1.N) (h0 : ¬ t.val % 18 = 0) (h2 : t.val % 18 = 17) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = PhiC V c t.val from rfl, show (dat1 V c).Φ t.succ = PhiC V c (t.val + 1) from rfl]
  unfold PhiC
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  rw [show (dat1 V c).leavesExact 6 t = owns (c : Thread nD τ) (ms1_6 t) fullShare ((dat1 V c).after 6 t) from by
      unfold Dat.leavesExact; rw [lastAt1_6 t ((hcond2 t).mpr h2)], after1_6]
  rw [show (dat1 V c).leavesExact 7 t = owns (c : Thread nD τ) (ms1_7 t) fullShare ((dat1 V c).after 7 t) from by
      unfold Dat.leavesExact; rw [lastAt1_7 t ((hcond2 t).mpr h2)], after1_7]
  iintro ⟨⟨%H, %A, %hC, ⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hF := full_last V c t h2 H A hC
  have hM : maximumf A (laneAt V c t.val) = amaxAt V c (t.val / 18) 17 := (amax_step V c t h0 A hC.2).trans (by rw [h2])
  have hn : Carried V c (t.val + 1) (hFull V c (t.val / 18)) (amaxAt V c (t.val / 18) 17) := carried_none V c _ (by omega) _ _
  have hr := runC c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond0 t).mp h)) ((hcond1 t).mpr h0) ((hcond2 t).mpr h2) (iblk1 V c 0 t) (iblk1 V c 1 t) (iblk1 V c 2 t) (iblk1 V c 3 t) (iblk1 V c 4 t) (iblk1 V c 5 t) ((dat1 V c).before 6 t d6) ((dat1 V c).before 7 t d7) H A Set.univ
  rw [hAt_pt, laneAt_pt] at hr
  rw [hF, hM] at hr
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HR0 HR1 HR2 HR3 HR4 HR5 HS0 HS1 Hg]
  · iexists _; iexists _
    isplitr
    · ipureintro; exact hn
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 18 = 0
  · exact sound_body1_A V c t h0
  by_cases h2 : t.val % 18 = 17
  · exact sound_body1_C V c t h0 h2
  · exact sound_body1_B V c t h0 h2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl
end Regions

end Cert.KernelIdeal.Whole

end
-- ==== Proof.Run.lean ====
module

public import proofs.«01_k».proof.Proof.Quant
public import proofs.«01_k».proof.Proof.GateBody
public import Idealize.ShloMosaic.Lib.Pipeline.RegionsLoop
public import Idealize.ShloMosaic.Lib.Pipeline.FrameSuffix

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiC (V2 m ρ) c 0 from rfl]
    have h := hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = PhiC (V2 m ρ) c (Fin.last cfg1.N).val from rfl]
    have h := hout1 (V2 m ρ) c (Fin.last cfg1.N).val
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the kit's implicit arguments are found by unifying its conclusion with this one, which takes unfolding plain definitions
set_option backward.isDefEq.respectTransparency.types false in
/-- The whole run: from any memory with zero counters it terminates, nothing faulting, and every final state has each
    unscoped buffer at the contents the fold through the program names, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

/-- The frame: the argument arrays end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h =>
    ⟨fun c => ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩, h.2⟩) (run_all m ρ)

end Cert.KernelIdeal.Whole

end
-- ==== Proof.Exponent.lean ====
module

public import Idealize.ShloMosaic.Lib.Pointwise

@[expose] public section

noncomputable section

namespace Cert.Scale

open Idealize.ShloMosaic

/-! # The power-of-two scale of one row, as the kernel and as the reference compute it

    Everything here is about one number `t`, the row's greatest magnitude divided by the greatest code. Both programs
    take the exponent `e` of `t` (`t = f · 2^e`, `1/2 ≤ f < 1`) and from it the scale `2^e` and the factor `2^(-e)`.
    The kernel finds the exponent field of `t` by a binary search over the powers of two and shifts it back into a
    word; the reference takes the least entry of a table and raises two to it. -/

/-! ## The kernel's search -/

/-- The number whose exponent field is `b` and whose fraction is zero. -/
def word (b : BitVec 32) : EReal := Ideal.ofBits .f32 (IntOp.shli .vector b 23#32)

/-- One step of the search: `c` is added to `b` if `t` reaches the power of two of the sum. -/
def step (t : EReal) (b c : BitVec 32) : BitVec 32 :=
  Scalar.select (Ideal.cmp .oge t (word (IntOp.addi b c))) (IntOp.addi b c) b

/-- The exponent field of `t`: the search's eight steps. -/
def field (t : EReal) : BitVec 32 :=
  step t (step t (step t (step t (step t (step t (step t (step t 0#32 128#32) 64#32) 32#32) 16#32) 8#32) 4#32) 2#32) 1#32

/-- The exponent from the field. -/
def expo (b : BitVec 32) : BitVec 32 :=
  Scalar.select (IntOp.ori (IntOp.cmpi .eq b 0#32) (IntOp.cmpi .eq b 255#32)) 0#32 (IntOp.subi b 126#32)

/-- The biased exponent, kept within the field. -/
def clip (e : BitVec 32) : BitVec 32 :=
  Scalar.select (IntOp.cmpi .sle e 0#32) 0#32 (Scalar.select (IntOp.cmpi .sge e 255#32) 255#32 e)

/-- The kernel's scale. -/
def kScale (t : EReal) : EReal := word (clip (IntOp.addi 127#32 (expo (field t))))

/-- The kernel's factor, the scale's reciprocal. -/
def kInv (t : EReal) : EReal := word (clip (IntOp.addi 127#32 (IntOp.subi 0#32 (expo (field t)))))

/-! ## The reference's table -/

/-- The table's exponent number `k`. -/
def entry (k : Fin 256) : EReal :=
  (((IntOp.addi (BitVec.ofNat 32 k.val) 4294967171#32).toInt : ℝ) : EReal)

/-- What the table's exponent number `k` offers: itself if `t` is below its power of two, else 128. -/
def offer (t : EReal) (k : Fin 256) : EReal :=
  Scalar.select (IntOp.andi (Ideal.cmp .ole (entry k) (Ideal.ofBits .f32 0x42FE0000#32))
    (Ideal.cmp .olt t (Ideal.exp2 (entry k)))) (entry k) (Ideal.ofBits .f32 0x43000000#32)

/-- The reference's exponent of `t`. -/
def rExpo (t : EReal) : EReal :=
  Scalar.select (IntOp.ori (Ideal.cmp .olt t (Ideal.ofBits .f32 0x00800000#32))
    (Ideal.cmp .oeq t (Ideal.ofBits .f32 0x7F800000#32))) (Ideal.ofBits .f32 0x00000000#32)
    (Finset.univ.fold min (Ideal.ofBits .f32 0x7F800000#32) (offer t))

/-- Two to the power `e`, zero below the least and infinite above the greatest exponent. -/
def ldexp (e : EReal) : EReal :=
  Scalar.select (Ideal.cmp .olt e (Ideal.ofBits .f32 0xC2FC0000#32)) (Ideal.ofBits .f32 0x00000000#32)
    (Scalar.select (Ideal.cmp .ogt e (Ideal.ofBits .f32 0x42FE0000#32)) (Ideal.ofBits .f32 0x7F800000#32) (Ideal.exp2 e))

/-- The reference's scale. -/
def rScale (t : EReal) : EReal := ldexp (rExpo t)

/-- The reference's factor. -/
def rInv (t : EReal) : EReal := ldexp (Ideal.ofBits .f32 0x00000000#32 - rExpo t)

/-! ## The constants -/

theorem c_inf : Ideal.ofBits .f32 0x7F800000#32 = ⊤ := by simp [Ideal.ofBits, Ideal.ieee]
theorem c_zero : Ideal.ofBits .f32 0x00000000#32 = 0 := Ideal.ofBits_zero_f32
theorem c_127 : Ideal.ofBits .f32 0x42FE0000#32 = ((127 : ℝ) : EReal) := by
  simp [Ideal.ofBits, Ideal.ieee]; rw [← EReal.coe_mul]; norm_num
theorem c_128 : Ideal.ofBits .f32 0x43000000#32 = ((128 : ℝ) : EReal) := by
  simp [Ideal.ofBits, Ideal.ieee]; rw [← EReal.coe_mul]; norm_num
theorem c_m126 : Ideal.ofBits .f32 0xC2FC0000#32 = ((-126 : ℝ) : EReal) := by
  simp [Ideal.ofBits, Ideal.ieee]; rw [← EReal.coe_mul]; norm_num

/-! ## The power of two of a field -/

theorem word_bits : ∀ n : Fin 256,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

/-- The power of two of the field `n`: zero at 0, infinity at 255. -/
def pow2 (n : ℕ) : EReal := if n = 255 then ⊤ else if n = 0 then 0 else (((2 : ℝ) ^ ((n : ℤ) - 127) : ℝ) : EReal)

/-- A number of sign bit clear and fraction zero, from its exponent field. -/
theorem ofBits_of_field (b : BitVec 32) (n : ℕ) (h1 : (b.extractLsb' 31 1 == 1#1) = false)
    (h2 : (b.extractLsb' 23 8).toNat = n) (h3 : (b.extractLsb' 0 23).toNat = 0) :
    Ideal.ofBits .f32 b = pow2 n := by
  show Ideal.ieee 8 23 b = pow2 n
  unfold Ideal.ieee pow2
  simp only [Nat.reduceAdd, h1, h2, h3]
  by_cases h255 : n = 255
  · simp [h255]
  by_cases h0 : n = 0
  · simp [h0]
  rw [if_neg (by omega), if_neg h0, if_neg h255, if_neg h0]
  congr 1
  have h : (2 : ℝ) ^ ((n : ℤ) - 127) = 2 ^ (23 : ℕ) * 2 ^ ((n : ℤ) - 127 - 23) := by
    rw [zpow_sub₀ two_ne_zero ((n : ℤ) - 127) 23]; norm_cast; field_simp
  rw [h]
  norm_num

theorem word_eq {n : ℕ} (h : n ≤ 255) : word (BitVec.ofNat 32 n) = pow2 n := by
  obtain ⟨h1, h2, h3⟩ := word_bits ⟨n, by omega⟩
  exact ofBits_of_field _ n h1 h2 h3

theorem c_tiny : Ideal.ofBits .f32 0x00800000#32 = pow2 1 := ofBits_of_field _ 1 rfl rfl rfl

/-! ## The search finds the greatest power of two that `t` reaches -/

/-- What is known of `t` after a step of the search: `b` is reached, or zero; `b + w` is not reached, or past the last. -/
def Within (t : EReal) (b w : ℕ) : Prop :=
  b + w ≤ 256 ∧ (b = 0 ∨ pow2 b ≤ t) ∧ (b + w = 256 ∨ t < pow2 (b + w))

theorem step_eq (t : EReal) (b c : ℕ) (hc : 0 < c) (h : Within t b (2 * c)) :
    ∃ b', step t (BitVec.ofNat 32 b) (BitVec.ofNat 32 c) = BitVec.ofNat 32 b' ∧ Within t b' c := by
  obtain ⟨h1, h2, h3⟩ := h
  have hw : word (BitVec.ofNat 32 (b + c)) = pow2 (b + c) := word_eq (by omega)
  unfold step IntOp.addi Scalar.select Ideal.cmp
  rw [← BitVec.ofNat_add, hw]
  by_cases hle : pow2 (b + c) ≤ t
  · refine ⟨b + c, by simp [hle], by omega, Or.inr hle, ?_⟩
    rw [show b + c + c = b + 2 * c by ring]; exact h3
  · exact ⟨b, by simp [hle], by omega, h2, Or.inr (lt_of_not_ge hle)⟩

theorem field_eq (t : EReal) : ∃ n, field t = BitVec.ofNat 32 n ∧ Within t n 1 := by
  obtain ⟨b1, e1, w1⟩ := step_eq t 0 128 (by omega) ⟨by omega, Or.inl rfl, Or.inl rfl⟩
  obtain ⟨b2, e2, w2⟩ := step_eq t b1 64 (by omega) w1
  obtain ⟨b3, e3, w3⟩ := step_eq t b2 32 (by omega) w2
  obtain ⟨b4, e4, w4⟩ := step_eq t b3 16 (by omega) w3
  obtain ⟨b5, e5, w5⟩ := step_eq t b4 8 (by omega) w4
  obtain ⟨b6, e6, w6⟩ := step_eq t b5 4 (by omega) w5
  obtain ⟨b7, e7, w7⟩ := step_eq t b6 2 (by omega) w6
  obtain ⟨b8, e8, w8⟩ := step_eq t b7 1 (by omega) w7
  refine ⟨b8, ?_, w8⟩
  unfold field
  rw [show step t 0#32 128#32 = _ from e1, show step t _ 64#32 = _ from e2, show step t _ 32#32 = _ from e3,
    show step t _ 16#32 = _ from e4, show step t _ 8#32 = _ from e5, show step t _ 4#32 = _ from e6,
    show step t _ 2#32 = _ from e7, show step t _ 1#32 = _ from e8]

/-! ## The kernel's scale and factor, by the field -/

theorem scale_words : ∀ n : Fin 256,
    clip (IntOp.addi 127#32 (expo (BitVec.ofNat 32 n.val)))
        = BitVec.ofNat 32 (if n.val = 0 ∨ n.val = 255 then 127 else n.val + 1)
    ∧ clip (IntOp.addi 127#32 (IntOp.subi 0#32 (expo (BitVec.ofNat 32 n.val))))
        = BitVec.ofNat 32 (if n.val = 0 ∨ n.val = 255 then 127 else 253 - n.val) := by
  decide +kernel

theorem kScale_eq {t : EReal} {n : ℕ} (hn : n ≤ 255) (h : field t = BitVec.ofNat 32 n) :
    kScale t = pow2 (if n = 0 ∨ n = 255 then 127 else n + 1) := by
  unfold kScale
  rw [h, (scale_words ⟨n, by omega⟩).1]
  exact word_eq (by dsimp only; split <;> omega)

theorem kInv_eq {t : EReal} {n : ℕ} (hn : n ≤ 255) (h : field t = BitVec.ofNat 32 n) :
    kInv t = pow2 (if n = 0 ∨ n = 255 then 127 else 253 - n) := by
  unfold kInv
  rw [h, (scale_words ⟨n, by omega⟩).2]
  exact word_eq (by dsimp only; split <;> omega)

/-! ## The reference's exponent, by the field -/

theorem entry_eq (k : Fin 256) : entry k = (((k.val : ℤ) - 125 : ℤ) : ℝ) := by
  unfold entry
  have h : ∀ k : Fin 256, (IntOp.addi (BitVec.ofNat 32 k.val) 4294967171#32).toInt = (k.val : ℤ) - 125 := by
    decide +kernel
  rw [h]

theorem exp2_int (z : ℤ) : Ideal.exp2 (((z : ℝ) : EReal)) = (((2 : ℝ) ^ z : ℝ) : EReal) := by
  rw [Ideal.exp2_coe]
  congr 1
  exact Real.rpow_intCast 2 z

theorem offer_eq (t : EReal) (k : Fin 256) :
    offer t k = if (k.val ≤ 252 ∧ t < (((2 : ℝ) ^ ((k.val : ℤ) - 125) : ℝ) : EReal)) then ((((k.val : ℤ) - 125 : ℤ) : ℝ) : EReal)
      else ((128 : ℝ) : EReal) := by
  unfold offer
  rw [entry_eq, exp2_int, c_127, c_128]
  unfold Ideal.cmp Scalar.select IntOp.andi
  have hle : (((((k.val : ℤ) - 125 : ℤ) : ℝ) : EReal) ≤ ((127 : ℝ) : EReal)) ↔ k.val ≤ 252 := by
    rw [EReal.coe_le_coe_iff]
    rw [show (127 : ℝ) = ((127 : ℤ) : ℝ) by norm_num, Int.cast_le]
    omega
  by_cases h1 : k.val ≤ 252 <;> by_cases h2 : t < (((2 : ℝ) ^ ((k.val : ℤ) - 125) : ℝ) : EReal) <;>
    simp only [h1, h2, hle, decide_true, decide_false, and_true, and_false, true_and, false_and, if_true, if_false] <;> rfl

theorem pow2_mid {n : ℕ} (h1 : 1 ≤ n) (h2 : n ≤ 254) : pow2 n = (((2 : ℝ) ^ ((n : ℤ) - 127) : ℝ) : EReal) := by
  unfold pow2; rw [if_neg (by omega), if_neg (by omega)]

theorem pow2_mono {a b : ℕ} (h1 : 1 ≤ a) (h : a ≤ b) (h2 : b ≤ 254) : pow2 a ≤ pow2 b := by
  rw [pow2_mid h1 (by omega), pow2_mid (by omega) h2, EReal.coe_le_coe_iff]
  exact zpow_le_zpow_right₀ (by norm_num) (by omega)

/-- The table's least exponent, for `t` between the powers of two of the fields `n` and `n + 1`. -/
theorem fold_offer {t : EReal} {n : ℕ} (h1 : 1 ≤ n) (h2 : n ≤ 254) (hlo : pow2 n ≤ t) (hhi : t < pow2 (n + 1)) :
    Finset.univ.fold min (⊤ : EReal) (offer t) = ((((n : ℤ) - 126 : ℤ) : ℝ) : EReal) := by
  apply le_antisymm
  · rw [Finset.fold_min_le]
    right
    refine ⟨⟨n - 1, by omega⟩, Finset.mem_univ _, ?_⟩
    rw [offer_eq]
    dsimp only
    by_cases h254 : n = 254
    · rw [if_neg (by omega), h254]
      norm_num
    · rw [pow2_mid (by omega) (by omega)] at hhi
      rw [if_pos ⟨by omega, by
        rw [show ((n - 1 : ℕ) : ℤ) - 125 = ((n + 1 : ℕ) : ℤ) - 127 by omega]; exact hhi⟩]
      rw [show ((n - 1 : ℕ) : ℤ) - 125 = (n : ℤ) - 126 by omega]
  · rw [Finset.le_fold_min]
    refine ⟨le_top, fun k _ => ?_⟩
    rw [offer_eq]
    split
    · rename_i hk
      have h := lt_of_le_of_lt hlo hk.2
      rw [pow2_mid h1 h2, EReal.coe_lt_coe_iff, zpow_lt_zpow_iff_right₀ (by norm_num)] at h
      rw [EReal.coe_le_coe_iff, Int.cast_le]
      omega
    · rw [EReal.coe_le_coe_iff, show (128 : ℝ) = ((128 : ℤ) : ℝ) by norm_num, Int.cast_le]
      omega

/-- The reference's exponent is the field's. -/
theorem rExpo_eq {t : EReal} {n : ℕ} (hn : n ≤ 255) (h : Within t n 1) :
    rExpo t = (((if n = 0 ∨ n = 255 then 0 else (n : ℤ) - 126 : ℤ) : ℝ) : EReal) := by
  obtain ⟨-, hlo, hhi⟩ := h
  unfold rExpo
  rw [c_tiny, c_inf, c_zero]
  unfold Ideal.cmp Scalar.select IntOp.ori
  by_cases h0 : n = 0
  · have ht : t < pow2 1 := by
      rcases hhi with h | h
      · omega
      · simpa [h0] using h
    simp only [ht, h0, decide_true, true_or, if_true, Int.cast_zero, EReal.coe_zero]
    by_cases h' : t = ⊤ <;> simp only [h', decide_true, decide_false] <;> rfl
  have hlo' : pow2 n ≤ t := by rcases hlo with h | h; exact absurd h h0; exact h
  by_cases h255 : n = 255
  · have ht : t = ⊤ := by
      have : pow2 n = ⊤ := by simp [pow2, h255]
      exact top_le_iff.mp (this ▸ hlo')
    subst h255
    by_cases h' : t < pow2 1 <;> simp only [ht, h', decide_true, decide_false] <;> simp
  have hhi' : t < pow2 (n + 1) := by rcases hhi with h | h; omega; exact h
  have ht1 : ¬ t < pow2 1 := not_lt.mpr (le_trans (pow2_mono le_rfl (by omega) (by omega)) hlo')
  have ht2 : t ≠ ⊤ := ne_top_of_lt hhi'
  rw [if_neg (by omega : ¬(n = 0 ∨ n = 255)), fold_offer (by omega) (by omega) hlo' hhi']
  simp only [ht1, ht2, decide_false]
  rfl

/-! ## The two scales and the two factors are equal -/

theorem ldexp_int (z : ℤ) (n : ℕ) (h : n = (min 255 (max 0 (z + 127))).toNat) :
    ldexp (((z : ℝ) : EReal)) = pow2 n := by
  unfold ldexp
  rw [c_m126, c_zero, c_127, c_inf, exp2_int]
  have e1 : ((((z : ℝ) : EReal)) < ((-126 : ℝ) : EReal)) ↔ z < -126 := by
    rw [EReal.coe_lt_coe_iff, show (-126 : ℝ) = ((-126 : ℤ) : ℝ) by norm_num, Int.cast_lt]
  have e2 : (((127 : ℝ) : EReal) < (((z : ℝ) : EReal))) ↔ 127 < z := by
    rw [EReal.coe_lt_coe_iff, show (127 : ℝ) = ((127 : ℤ) : ℝ) by norm_num, Int.cast_lt]
  unfold Ideal.cmp Scalar.select
  simp only [e1, e2]
  by_cases h1 : z < -126
  · have : n = 0 := by omega
    simp [h1, this, pow2]
  by_cases h2 : 127 < z
  · have : n = 255 := by omega
    simp [h1, h2, this, pow2]
  · have hn : (n : ℤ) - 127 = z := by omega
    rw [pow2_mid (by omega) (by omega), hn]
    simp [h1, h2]

/-- The kernel's scale is the reference's, for every number. -/
theorem kScale_eq_rScale (t : EReal) : kScale t = rScale t := by
  obtain ⟨n, hf, hw⟩ := field_eq t
  have hn : n ≤ 255 := by have := hw.1; omega
  rw [kScale_eq hn hf]
  unfold rScale
  rw [rExpo_eq hn hw]
  refine (ldexp_int _ _ ?_).symm
  split_ifs <;> omega

/-- The kernel's factor is the reference's, for every number. -/
theorem kInv_eq_rInv (t : EReal) : kInv t = rInv t := by
  obtain ⟨n, hf, hw⟩ := field_eq t
  have hn : n ≤ 255 := by have := hw.1; omega
  rw [kInv_eq hn hf]
  unfold rInv
  rw [rExpo_eq hn hw, c_zero, zero_sub, ← EReal.coe_neg, ← Int.cast_neg]
  refine (ldexp_int _ _ ?_).symm
  split_ifs <;> omega

end Cert.Scale
-- ==== Proof.Spec.lean ====
module

public import proofs.«01_k».proof.Proof.Exponent

@[expose] public section

noncomputable section

namespace Cert.Spec

open Idealize.ShloMosaic

/-! # The four results as formulas, row by row -/

/-- The greatest magnitude of a row. -/
def rowMax {n : ℕ} (f : Fin n → EReal) : EReal := Finset.univ.fold max (⊥ : EReal) (fun k => max (f k) (-f k))

/-- What the row's scale is the power of two of: the greatest magnitude over the greatest code. -/
def target {n : ℕ} (f : Fin n → EReal) : EReal := rowMax f * Ideal.ofBits .f32 0x3B124925#32

/-- One code: the number times the row's factor, kept within the codes' range. -/
def code (x s : EReal) : EReal :=
  min (Ideal.ofBits .f32 0x43E00000#32) (max (Ideal.ofBits .f32 0xC3E00000#32) (x * s))

/-- The scale of a row. -/
def scaleRow {n : ℕ} (f : Fin n → EReal) : EReal := Scale.rScale (target f)

/-- The codes of a row. -/
def codeRow {n : ℕ} (f : Fin n → EReal) (k : Fin n) : EReal := code (f k) (Scale.rInv (target f))

section
variable (X : Fin 3072 → Fin 7168 → EReal) (W : Fin 7168 → Fin 9216 → EReal) (S : Fin 9216 → EReal)

/-- The product of the codes of `x` with the weight codes, scaled by row and by column. -/
def prod (r : Fin 3072) (j : Fin 9216) : EReal :=
  (∑ k : Fin 7168, codeRow (X r) k * W k j) * scaleRow (X r) * S j

/-- Gate column `j`. -/
abbrev gateCol (j : Fin 4608) : Fin 9216 := ⟨j.val, by omega⟩
/-- Up column `j`. -/
abbrev upCol (j : Fin 4608) : Fin 9216 := ⟨4608 + j.val, by omega⟩

/-- The hidden activation, `silu(gate) * up`. -/
def hidden (r : Fin 3072) (j : Fin 4608) : EReal :=
  prod X W S r (gateCol j) * Ideal.logistic (prod X W S r (gateCol j)) * prod X W S r (upCol j)

end

/-! ## A row's maximum, part by part -/

theorem c_ninf : Ideal.ofBits .f32 0xFF800000#32 = ⊥ := by simp [Ideal.ofBits, Ideal.ieee]
theorem c_ninf16 : Ideal.ofBits .bf16 0xFF80#16 = ⊥ := by simp [Ideal.ofBits, Ideal.ieee]

theorem le_rowMax {n : ℕ} (f : Fin n → EReal) (b : EReal) : rowMax f ≤ b ↔ ∀ k, max (f k) (-f k) ≤ b := by
  unfold rowMax
  rw [Finset.fold_max_le]
  simp

end Cert.Spec
-- ==== Proof.Results.lean ====
module

public import proofs.«01_k».proof.Proof.Spec
public import Idealize.ShloMosaic.Lib.Pointwise

@[expose] public section

noncomputable section

namespace Cert.Spec

open Idealize.ShloMosaic

/-! # The four results as arrays, from the three arguments -/

variable (x : (⟨3, ![1, 3072, 7168]⟩ : Shape).Idx → EReal) (w : (⟨2, ![7168, 9216]⟩ : Shape).Idx → EReal)
  (s : (⟨1, ![9216]⟩ : Shape).Idx → EReal)

/-- The rows of `x`. -/
def argX (r : Fin 3072) (k : Fin 7168) : EReal := x (ix3 0 r k)
/-- The weight codes. -/
def argW (k : Fin 7168) (j : Fin 9216) : EReal := w (ix2 k j)
/-- The weight scales. -/
def argS (j : Fin 9216) : EReal := s (ix1 j)

/-- The scales of `x`. -/
def xScale (i : (⟨2, ![3072, 1]⟩ : Shape).Idx) : EReal := scaleRow (argX x (i 0))
/-- The codes of `x`. -/
def xCodes (i : (⟨2, ![3072, 7168]⟩ : Shape).Idx) : EReal := codeRow (argX x (i 0)) (i 1)
/-- The scales of the hidden activation. -/
def hScale (i : (⟨2, ![3072, 1]⟩ : Shape).Idx) : EReal := scaleRow (hidden (argX x) (argW w) (argS s) (i 0))
/-- The codes of the hidden activation. -/
def hCodes (i : (⟨2, ![3072, 4608]⟩ : Shape).Idx) : EReal := codeRow (hidden (argX x) (argW w) (argS s) (i 0)) (i 1)

end Cert.Spec
-- ==== Proof.KerRows.lean ====
module

public import proofs.«01_k».proof.Proof.Spec
public import proofs.«01_k».proof.Proof.Gen.KernelIdeal.Skeleton
public import Idealize.ShloMosaic.Lib.Pointwise
public import Idealize.ShloMosaic.Lib.Pipeline.Value

@[expose] public section

noncomputable section

namespace Cert.KernelIdeal.Whole

open Idealize.ShloMosaic Cert.KernelIdeal Cert.KernelIdeal.Gen

/-! # The kernel's quantiser, at an index of a column

Every operation below acts at each index by itself; each definition is a stretch of the printed lines. -/

section
variable {s : Shape}

/-- One step of the search, on a column. -/
def stepV (t : FVec Ideal s .f32) (b : IVec s 32) (c : BitVec 32) : IVec s 32 :=
  select (cmpf .oge t (bitcastToFloat .f32 (shli (addi b (broadcast s c)) (broadcast s 23#32)))) (addi b (broadcast s c)) b

theorem stepV_apply (t : FVec Ideal s .f32) (b : IVec s 32) (c : BitVec 32) (j : s.Idx) :
    stepV t b c j = Scale.step (t j) (b j) c := rfl

/-- The exponent from the field, on a column. -/
def expoV (b : IVec s 32) : IVec s 32 :=
  select (ori (cmpi .eq b (broadcast s 0#32)) (cmpi .eq b (broadcast s 255#32))) (broadcast s 0#32) (subi b (broadcast s 126#32))

theorem expoV_apply (b : IVec s 32) (j : s.Idx) : expoV b j = Scale.expo (b j) := rfl

/-- The power of two of a biased exponent, on a column. -/
def wordV (e : IVec s 32) : FVec Ideal s .f32 :=
  bitcastToFloat .f32 (shli (select (cmpi .sle e (broadcast s 0#32)) (broadcast s 0#32)
    (select (cmpi .sge e (broadcast s 255#32)) (broadcast s 255#32) e)) (broadcast s 23#32))

theorem wordV_apply (e : IVec s 32) (j : s.Idx) : wordV e j = Scale.word (Scale.clip (e j)) := rfl

end

/-! ## The first kernel -/

theorem k0_max_row (v : FVec Ideal S256x7168 .bf16) (r : Fin 256) (z : Fin 1) :
    shapeCast S256x1 (multiReduction .maximumf [1] S256 v 0xFF80#16 reduces_S256x7168_S256 (.inr rfl) rfl)
      shapeCasts_S256_S256x1 (ix2 r z) = Finset.univ.fold max (⊥ : EReal) (fun k => v (ix2 r k)) := by
  pointwise
  simp only [Spec.c_ninf16]

theorem k0_pay2_eq (x : Vec Ideal S256x7168 .bf16) : k0_pay2 (F := Ideal) x = x := by
  unfold k0_pay2
  exact shapeCast_self x _

theorem k0_pay3_apply (x : Vec Ideal S256x7168 .bf16) (r : Fin 256) (z : Fin 1) :
    k0_pay3 (F := Ideal) x (ix2 r z) = Spec.target (fun k => x (ix2 r k)) := by
  have h := k0_max_row (absf (F := Ideal) (φ := .bf16) x) r z
  unfold k0_pay3
  rw [k0_pay2_eq]
  dsimp only
  unfold Spec.target Spec.rowMax
  refine Eq.trans ?_ (congrArg (fun b : EReal => b * Ideal.ofBits .f32 0x3B124925#32) h)
  clear h
  generalize (shapeCast S256x1 (multiReduction .maximumf [1] S256 (absf (F := Ideal) (φ := .bf16) x) 0xFF80#16 reduces_S256x7168_S256 (.inr rfl) rfl)
      shapeCasts_S256_S256x1) = q
  rfl

theorem k0_pay4_eq (x : Vec Ideal S256x7168 .bf16) : k0_pay4 (F := Ideal) x
    = stepV (k0_pay3 (F := Ideal) x) (stepV (k0_pay3 (F := Ideal) x) (stepV (k0_pay3 (F := Ideal) x) (stepV (k0_pay3 (F := Ideal) x)
      (stepV (k0_pay3 (F := Ideal) x) (broadcast S256x1 0#32) 128#32) 64#32) 32#32) 16#32) 8#32 := by
  unfold k0_pay4
  generalize k0_pay3 (F := Ideal) x = t
  rfl

theorem k0_pay5_eq (t : FVec Ideal S256x1 .f32) (b : IVec S256x1 32) : k0_pay5 (F := Ideal) t b
    = expoV (stepV t (stepV t (stepV t b 4#32) 2#32) 1#32) := by
  unfold k0_pay5
  rfl

theorem k0_expo (x : Vec Ideal S256x7168 .bf16) (j : S256x1.Idx) :
    k0_pay5 (F := Ideal) (k0_pay3 (F := Ideal) x) (k0_pay4 (F := Ideal) x) j = Scale.expo (Scale.field (k0_pay3 (F := Ideal) x j)) := by
  rw [k0_pay5_eq, k0_pay4_eq, expoV_apply]
  simp only [stepV_apply]
  rfl

theorem k0_pay6_eq (t : FVec Ideal S256x1 .f32) (b : IVec S256x1 32) : k0_pay6 (F := Ideal) t b
    = wordV (addi (broadcast S256x1 127#32) (k0_pay5 (F := Ideal) t b)) := by
  unfold k0_pay6
  generalize k0_pay5 (F := Ideal) t b = e
  rfl

/-- The scale of a row. -/
theorem k0_scale (x : Vec Ideal S256x7168 .bf16) (r : Fin 256) :
    k0_pay6 (F := Ideal) (k0_pay3 (F := Ideal) x) (k0_pay4 (F := Ideal) x) (ix2 r 0) = Spec.scaleRow fun k => x (ix2 r k) := by
  rw [k0_pay6_eq, wordV_apply]
  have h := k0_expo x (ix2 r 0)
  unfold Spec.scaleRow
  rw [← k0_pay3_apply x r 0, ← Scale.kScale_eq_rScale]
  unfold Scale.kScale
  rw [← h]
  rfl

theorem k0_bcol (v : FVec Ideal S256x1 .f32) (r : Fin 256) (k : Fin 7168) :
    broadcastTo S256x7168 v broadcasts_S256x1_S256x7168 (ix2 r k) = v (ix2 r 0) := by
  pointwise

theorem k0_pay1_apply (x : FVec Ideal S256x7168 .bf16) (e : IVec S256x1 32) (r : Fin 256) (k : Fin 7168) :
    k0_pay1 (F := Ideal) x e 0#32 (ix2 r k)
      = Spec.code (x (ix2 r k)) (Scale.word (Scale.clip (IntOp.addi 127#32 (IntOp.subi 0#32 (e (ix2 r 0)))))) := by
  have h := k0_bcol (wordV (addi (broadcast S256x1 127#32) (subi (broadcast S256x1 0#32) e))) r k
  rw [wordV_apply] at h
  unfold Spec.code
  refine Eq.trans ?_ (congrArg (fun b => min (Ideal.ofBits .f32 0x43E00000#32) (max (Ideal.ofBits .f32 0xC3E00000#32) (x (ix2 r k) * b))) h)
  unfold k0_pay1
  rfl

/-- The codes of a row. -/
theorem k0_codes (x : Vec Ideal S256x7168 .bf16) (r : Fin 256) (k : Fin 7168) :
    k0_pay1 (F := Ideal) (k0_pay2 (F := Ideal) x) (k0_pay5 (F := Ideal) (k0_pay3 (F := Ideal) x) (k0_pay4 (F := Ideal) x)) 0#32 (ix2 r k)
      = Spec.codeRow (fun k => x (ix2 r k)) k := by
  rw [k0_pay1_apply, k0_expo, k0_pay2_eq, k0_pay3_apply]
  unfold Spec.codeRow
  rw [← Scale.kInv_eq_rInv]
  rfl

end Cert.KernelIdeal.Whole
-- ==== Proof.KerQuantArr.lean ====
module

public import proofs.«01_k».proof.Proof.KerRows
public import proofs.«01_k».proof.Proof.Quant

@[expose] public section

noncomputable section

namespace Cert.KernelIdeal.Whole

open Cert.KernelIdeal Cert.KernelIdeal.Gen
open Idealize.ShloMosaic Idealize.ShloMosaic.TcCoe Idealize.SL.Sem
open Idealize.ShloMosaic.Pipeline (Dat)

/-! # The first kernel's arrays: every row's codes and scale -/

variable (V : (c : Dev nD) → (b : Ref sig .tc) → Buf (Elt Ideal) ((c : Thread nD τ).loc b))

theorem hz2 : (![0, 0] : Fin 2 → Nat) = fun _ => 0 := funext fun a => by fin_cases a <;> rfl

/-- Row `r` of block `t`. -/
def row0 (t : Fin cfg0.N) (r : Fin 256) : Fin 3072 :=
  ⟨256 * t.val + r.val, by have h : t.val < 12 := lt_of_lt_of_eq t.isLt N_0; omega⟩

theorem ix0_0 : ∀ t : Fin cfg0.N, win0_0.index t 0 = t.val ∧ win0_0.index t 1 = 0 :=
  (by decide +kernel : ∀ t : Fin grid0.N, win0_0.index t 0 = t.val ∧ win0_0.index t 1 = 0)
theorem ix0_1 : ∀ t : Fin cfg0.N, win0_1.index t 0 = t.val ∧ win0_1.index t 1 = 0 :=
  (by decide +kernel : ∀ t : Fin grid0.N, win0_1.index t 0 = t.val ∧ win0_1.index t 1 = 0)
theorem ix0_2 : ∀ t : Fin cfg0.N, win0_2.index t 0 = t.val ∧ win0_2.index t 1 = 0 :=
  (by decide +kernel : ∀ t : Fin grid0.N, win0_2.index t 0 = t.val ∧ win0_2.index t 1 = 0)

theorem read0_0 (t : Fin cfg0.N) (G : Vec Ideal S3072x7168 .bf16) (r : Fin 256) (k : Fin 7168) :
    ((cfg0.win 0).blk t).view.read (Elt Ideal) G (ix2 r k) = G (ix2 (row0 t r) k) := by
  refine congrArg G (funext fun a => Fin.ext ?_)
  fin_cases a
  · show win0_0.index t 0 * 256 + 1 * r.val = 256 * t.val + r.val
    rw [(ix0_0 t).1]; omega
  · show win0_0.index t 1 * 7168 + 1 * k.val = k.val
    rw [(ix0_0 t).2]; omega
theorem read0_1 (t : Fin cfg0.N) (G : Vec Ideal S3072x7168 .fp8e4m3) (r : Fin 256) (k : Fin 7168) :
    ((cfg0.win 1).blk t).view.read (Elt Ideal) G (ix2 r k) = G (ix2 (row0 t r) k) := by
  refine congrArg G (funext fun a => Fin.ext ?_)
  fin_cases a
  · show win0_1.index t 0 * 256 + 1 * r.val = 256 * t.val + r.val
    rw [(ix0_1 t).1]; omega
  · show win0_1.index t 1 * 7168 + 1 * k.val = k.val
    rw [(ix0_1 t).2]; omega
theorem read0_2 (t : Fin cfg0.N) (G : Vec Ideal S3072x1 .f32) (r : Fin 256) (k : Fin 1) :
    ((cfg0.win 2).blk t).view.read (Elt Ideal) G (ix2 r k) = G (ix2 (row0 t r) k) := by
  refine congrArg G (funext fun a => Fin.ext ?_)
  fin_cases a
  · show win0_2.index t 0 * 256 + 1 * r.val = 256 * t.val + r.val
    rw [(ix0_2 t).1]; omega
  · show win0_2.index t 1 * 1 + 1 * k.val = k.val
    rw [(ix0_2 t).2]; omega

/-- The array `x` as the call finds it. -/
abbrev xIn (c : Dev nD) : Vec Ideal S3072x7168 .bf16 := V c main_v0

/-- The codes of every row. -/
def codes0 (c : Dev nD) : Vec Ideal S3072x7168 .fp8e4m3 := fun i => Spec.codeRow (fun k => xIn V c (ix2 (i 0) k)) (i 1)
/-- The scale of every row. -/
def scale0 (c : Dev nD) : Vec Ideal S3072x1 .f32 := fun i => Spec.scaleRow (fun k => xIn V c (ix2 (i 0) k))

theorem iblk0_apply (c : Dev nD) (t : Fin cfg0.N) (r : Fin 256) (k : Fin 7168) :
    iblk0 V c 0 t (ix2 r k) = xIn V c (ix2 (row0 t r) k) := read0_0 t _ r k

theorem flushed0_1 (c : Dev nD) (t : Fin cfg0.N) :
    (dat0 V c).flushed 1 t = ((cfg0.win 1).blk t).view.read (Elt Ideal) (codes0 V c) := by
  show (cfg0.win 1).cut (grid0.coords t) ((dat0 V c).after 1 t) = _
  rw [after0_1]
  unfold out0_1 k0_pay7 k0_pay8
  rw [View.canon_unit_zero hz2, View.ld_unit_zero hz2]
  funext y
  obtain ⟨r, k, rfl⟩ : ∃ (r : Fin 256) (k : Fin 7168), y = ix2 r k := ⟨y 0, y 1, eq_ix2 y⟩
  rw [read0_1]
  refine (k0_codes (iblk0 V c 0 t) r k).trans ?_
  simp only [iblk0_apply]
  rfl

theorem flushed0_2 (c : Dev nD) (t : Fin cfg0.N) :
    (dat0 V c).flushed 2 t = ((cfg0.win 2).blk t).view.read (Elt Ideal) (scale0 V c) := by
  show (cfg0.win 2).cut (grid0.coords t) ((dat0 V c).after 2 t) = _
  rw [after0_2]
  unfold out0_2 k0_pay7 k0_pay8
  rw [View.canon_unit_zero hz2, View.ld_unit_zero hz2]
  funext y
  obtain ⟨r, k, rfl⟩ : ∃ (r : Fin 256) (k : Fin 1), y = ix2 r k := ⟨y 0, y 1, eq_ix2 y⟩
  obtain rfl : k = 0 := Subsingleton.elim _ _
  rw [read0_2]
  refine (k0_scale (iblk0 V c 0 t) r).trans ?_
  simp only [iblk0_apply]
  rfl

theorem flush0 : ∀ t : Fin cfg0.N, (cfg0.win 1).flush t = true ∧ (cfg0.win 2).flush t = true :=
  (by decide +kernel : ∀ t : Fin grid0.N, win0_1.flush t = true ∧ win0_2.flush t = true)

theorem cover0_arr1 (i : S3072x7168.Idx) : ∃ t : Fin cfg0.N, (cfg0.win 1).flush t = true ∧ i ∈ ((cfg0.win 1).blk t).view.set := by
  have h0 : (i 0).val < 3072 := (i 0).isLt
  have h1 : (i 1).val < 7168 := (i 1).isLt
  have hN : cfg0.N = 12 := N_0
  refine ⟨⟨(i 0).val / 256, by omega⟩, (flush0 _).1, ?_⟩
  have e := ix0_1 ⟨(i 0).val / 256, by omega⟩
  revert e
  generalize ht : (⟨(i 0).val / 256, _⟩ : Fin cfg0.N) = t
  have hv : t.val = (i 0).val / 256 := by rw [← ht]
  intro e
  show i ∈ ((View.whole main_v2_0).slice (win0_1.rect t)).set
  rw [View.set_slice_whole, Rect.mem_set_unit]
  intro a
  fin_cases a
  · show win0_1.index t 0 * 256 ≤ (i 0).val ∧ (i 0).val < win0_1.index t 0 * 256 + 256
    rw [e.1]; omega
  · show win0_1.index t 1 * 7168 ≤ (i 1).val ∧ (i 1).val < win0_1.index t 1 * 7168 + 7168
    rw [e.2]; omega

theorem cover0_arr2 (i : S3072x1.Idx) : ∃ t : Fin cfg0.N, (cfg0.win 2).flush t = true ∧ i ∈ ((cfg0.win 2).blk t).view.set := by
  have h0 : (i 0).val < 3072 := (i 0).isLt
  have h1 : (i 1).val < 1 := (i 1).isLt
  have hN : cfg0.N = 12 := N_0
  refine ⟨⟨(i 0).val / 256, by omega⟩, (flush0 _).2, ?_⟩
  have e := ix0_2 ⟨(i 0).val / 256, by omega⟩
  revert e
  generalize ht : (⟨(i 0).val / 256, _⟩ : Fin cfg0.N) = t
  have hv : t.val = (i 0).val / 256 := by rw [← ht]
  intro e
  show i ∈ ((View.whole main_v2_1).slice (win0_2.rect t)).set
  rw [View.set_slice_whole, Rect.mem_set_unit]
  intro a
  fin_cases a
  · show win0_2.index t 0 * 256 ≤ (i 0).val ∧ (i 0).val < win0_2.index t 0 * 256 + 256
    rw [e.1]; omega
  · show win0_2.index t 1 * 1 ≤ (i 1).val ∧ (i 1).val < win0_2.index t 1 * 1 + 1
    rw [e.2]; omega

/-- The codes' array after the call. -/
theorem final0_1 (c : Dev nD) : (dat0 V c).arrAt 1 cfg0.N = codes0 V c :=
  (dat0 V c).arrAt_eq_of_cover 1 (codes0 V c) (fun t _ => flushed0_1 V c t) cover0_arr1
/-- The scales' array after the call. -/
theorem final0_2 (c : Dev nD) : (dat0 V c).arrAt 2 cfg0.N = scale0 V c :=
  (dat0 V c).arrAt_eq_of_cover 2 (scale0 V c) (fun t _ => flushed0_2 V c t) cover0_arr2

end Cert.KernelIdeal.Whole
-- ==== Proof.KerGate.lean ====
module

public import proofs.«01_k».proof.Proof.KerRows
public import proofs.«01_k».proof.Proof.GateValues

@[expose] public section

noncomputable section

namespace Cert.KernelIdeal.Whole

open Idealize.ShloMosaic Cert.KernelIdeal Cert.KernelIdeal.Gen

/-! # The second kernel's values at an index

The row scale and its reciprocal from the lane maxima, the codes from the carried blocks, and the block of `h` itself. -/

/-! ## Scale and reciprocal -/

/-- The greatest lane of a row. -/
def laneMax (A : Vec Ideal S512x128 .f32) (r : Fin 512) : EReal := Finset.univ.fold max (⊥ : EReal) (fun l : Fin 128 => A (ix2 r l))

theorem k1_max_row (v : FVec Ideal S512x128 .f32) (r : Fin 512) (z : Fin 1) :
    shapeCast S512x1 (multiReduction .maximumf [1] S512 v 0xFF800000#32 reduces_S512x128_S512 (.inl rfl) rfl)
      shapeCasts_S512_S512x1 (ix2 r z) = Finset.univ.fold max (⊥ : EReal) (fun k => v (ix2 r k)) := by
  pointwise
  simp only [Spec.c_ninf]

theorem k1_pay5_apply (A : Vec Ideal S512x128 .f32) (r : Fin 512) (z : Fin 1) :
    k1_pay5 (F := Ideal) A (ix2 r z) = laneMax A r * Ideal.ofBits .f32 0x3B124925#32 := by
  have h := k1_max_row A r z
  unfold laneMax
  refine Eq.trans ?_ (congrArg (fun b : EReal => b * Ideal.ofBits .f32 0x3B124925#32) h)
  clear h
  unfold k1_pay5
  generalize (shapeCast S512x1 (multiReduction (F := Ideal) (φ := .f32) .maximumf [1] S512 A 0xFF800000#32 reduces_S512x128_S512 (.inl rfl) rfl)
      shapeCasts_S512_S512x1) = q
  rfl

theorem k1_pay6_eq (A : Vec Ideal S512x128 .f32) : k1_pay6 (F := Ideal) A
    = stepV (k1_pay5 (F := Ideal) A) (stepV (k1_pay5 (F := Ideal) A) (stepV (k1_pay5 (F := Ideal) A) (stepV (k1_pay5 (F := Ideal) A)
      (stepV (k1_pay5 (F := Ideal) A) (broadcast S512x1 0#32) 128#32) 64#32) 32#32) 16#32) 8#32 := by
  unfold k1_pay6
  generalize k1_pay5 (F := Ideal) A = t
  rfl

theorem k1_pay7_eq (A : Vec Ideal S512x128 .f32) :
    k1_pay7 (F := Ideal) A = addi (k1_pay6 (F := Ideal) A) (broadcast S512x1 4#32) := by
  unfold k1_pay7
  generalize k1_pay6 (F := Ideal) A = t
  rfl

theorem k1_pay8_eq (t : FVec Ideal S512x1 .f32) (b : IVec S512x1 32) :
    k1_pay8 (F := Ideal) t b (addi b (broadcast S512x1 4#32)) 23#32 = expoV (stepV t (stepV t (stepV t b 4#32) 2#32) 1#32) := by
  unfold k1_pay8
  rfl

/-- The exponent of a row. -/
theorem k1_expo (A : Vec Ideal S512x128 .f32) (j : S512x1.Idx) :
    k1_pay8 (F := Ideal) (k1_pay5 (F := Ideal) A) (k1_pay6 (F := Ideal) A) (k1_pay7 (F := Ideal) A) 23#32 j
      = Scale.expo (Scale.field (k1_pay5 (F := Ideal) A j)) := by
  rw [k1_pay7_eq, k1_pay8_eq, k1_pay6_eq, expoV_apply]
  simp only [stepV_apply]
  rfl

theorem k1_pay9_eq (t : FVec Ideal S512x1 .f32) (b b' : IVec S512x1 32) (c : BitVec 32) :
    k1_pay9 (F := Ideal) t b b' c = wordV (addi (broadcast S512x1 127#32) (k1_pay8 (F := Ideal) t b b' c)) := by
  unfold k1_pay9
  generalize k1_pay8 (F := Ideal) t b b' c = e
  rfl

theorem k1_pay10_eq (t : FVec Ideal S512x1 .f32) (b b' : IVec S512x1 32) (c : BitVec 32) :
    k1_pay10 (F := Ideal) t b b' c = subi (broadcast S512x1 0#32) (k1_pay8 (F := Ideal) t b b' c) := by
  unfold k1_pay10
  generalize k1_pay8 (F := Ideal) t b b' c = e
  rfl

theorem k1_pay12_eq (e f : IVec S512x1 32) : k1_pay12 (F := Ideal) e f = wordV (addi f e) := by
  unfold k1_pay12
  rfl

theorem scaleOf_apply (A : Vec Ideal S512x128 .f32) (r : Fin 512) :
    scaleOf (F := Ideal) A (ix2 r 0) = Scale.rScale (laneMax A r * Ideal.ofBits .f32 0x3B124925#32) := by
  unfold scaleOf
  rw [k1_pay9_eq, wordV_apply]
  have h := k1_expo A (ix2 r 0)
  rw [← k1_pay5_apply A r 0, ← Scale.kScale_eq_rScale]
  unfold Scale.kScale
  rw [← h]
  rfl

theorem negScale_apply (A : Vec Ideal S512x128 .f32) (r : Fin 512) :
    negScale (F := Ideal) A (ix2 r 0) = Scale.rInv (laneMax A r * Ideal.ofBits .f32 0x3B124925#32) := by
  unfold negScale expoOf
  rw [k1_pay12_eq, wordV_apply, k1_pay10_eq]
  have h := k1_expo A (ix2 r 0)
  rw [← k1_pay5_apply A r 0, ← Scale.kInv_eq_rInv]
  unfold Scale.kInv
  rw [← h]
  rfl

/-! ## The codes of one slab -/

theorem k1_slab (v : FVec Ideal S1x512x256 .f32) (r : Fin 512) (c : Fin 256) :
    shapeCast S512x256 v shapeCasts_S1x512x256_S512x256 (ix2 r c) = v (ix3 0 r c) := by
  pointwise

theorem k1_bcol (v : FVec Ideal S512x1 .f32) (r : Fin 512) (c : Fin 256) :
    broadcastTo S512x256 v broadcasts_S512x1_S512x256 (ix2 r c) = v (ix2 r 0) := by
  pointwise

theorem k1_brow (v : FVec Ideal S1x256 .f32) (r : Fin 512) (c : Fin 256) :
    broadcastTo S512x256 v broadcasts_S1x256_S512x256 (ix2 r c) = v (ix2 0 c) := by
  pointwise

/-- The printed lines of one slab's codes. -/
def slabCodes (n : FVec Ideal S512x1 .f32) (v : FVec Ideal S1x512x256 .f32) : FVec Ideal S512x256 .fp8e4m3 :=
  truncf .fp8e4m3 (minimumf (broadcast S512x256 (Scalar.ofBits (F := Ideal) .f32 0x43E00000#32)) (maximumf (broadcast S512x256 (Scalar.ofBits (F := Ideal) .f32 0xC3E00000#32))
    (mulf (shapeCast S512x256 v shapeCasts_S1x512x256_S512x256) (broadcastTo S512x256 n broadcasts_S512x1_S512x256)))) bitsLt_fp8e4m3_f32

theorem slabCodes_apply (n : FVec Ideal S512x1 .f32) (v : FVec Ideal S1x512x256 .f32) (r : Fin 512) (c : Fin 256) :
    slabCodes n v (ix2 r c) = Spec.code (v (ix3 0 r c)) (n (ix2 r 0)) := by
  rw [← k1_slab v r c, ← k1_bcol n r c]
  unfold slabCodes
  generalize shapeCast S512x256 v shapeCasts_S1x512x256_S512x256 = a
  generalize broadcastTo S512x256 n broadcasts_S512x1_S512x256 = b
  rfl

/-! ## The block of `h` -/

theorem k1_dot (a : FVec Ideal S512x7168 .fp8e4m3) (b : FVec Ideal S7168x256 .fp8e4m3) (r : Fin 512) (c : Fin 256) :
    matmul (F := Ideal) (φ₂ := .fp8e4m3) dot_S512x7168_S7168x256_S512x256_1_0_0_1_n_n none a b (constant S512x256 .f32 0x00000000#32) (ix2 r c)
      = ∑ k : Fin 7168, a (ix2 r k) * b (ix2 k c) := by
  pointwise

/-- The printed lines of one product, scaled by row and by column. -/
def prodV (a : FVec Ideal S512x7168 .fp8e4m3) (s : FVec Ideal S512x1 .f32) (b : FVec Ideal S7168x256 .fp8e4m3) (w : FVec Ideal S1x256 .f32) :
    FVec Ideal S512x256 .f32 :=
  mulf (mulf (matmul (F := Ideal) (φ₂ := .fp8e4m3) dot_S512x7168_S7168x256_S512x256_1_0_0_1_n_n none a b (constant S512x256 .f32 0x00000000#32))
    (broadcastTo S512x256 s broadcasts_S512x1_S512x256)) (broadcastTo S512x256 w broadcasts_S1x256_S512x256)

theorem prodV_apply (a : FVec Ideal S512x7168 .fp8e4m3) (s : FVec Ideal S512x1 .f32) (b : FVec Ideal S7168x256 .fp8e4m3) (w : FVec Ideal S1x256 .f32)
    (r : Fin 512) (c : Fin 256) :
    prodV a s b w (ix2 r c) = (∑ k : Fin 7168, a (ix2 r k) * b (ix2 k c)) * s (ix2 r 0) * w (ix2 0 c) := by
  rw [← k1_dot, ← k1_bcol s r c, ← k1_brow w r c]
  unfold prodV
  generalize broadcastTo S512x256 s broadcasts_S512x1_S512x256 = q
  generalize broadcastTo S512x256 w broadcasts_S1x256_S512x256 = u
  generalize matmul (F := Ideal) (φ₂ := .fp8e4m3) dot_S512x7168_S7168x256_S512x256_1_0_0_1_n_n none a b (constant S512x256 .f32 0x00000000#32) = p
  rfl

theorem k1_pay30_eq (v0 : Vec Ideal S512x7168 .fp8e4m3) (v2 : Vec Ideal S512x1 .f32) (v4 : Vec Ideal S7168x256 .fp8e4m3) (v8 : Vec Ideal S1x256 .f32)
    (v12 : Vec Ideal S7168x256 .fp8e4m3) (v16 : Vec Ideal S1x256 .f32) :
    k1_pay30 (F := Ideal) v0 v2 v4 v8 v12 v16
      = mulf (mulf (prodV v0 v2 v4 v8) (logistic (prodV v0 v2 v4 v8))) (prodV v0 v2 v12 v16) := by
  unfold k1_pay30
  rw [shapeCast_self, shapeCast_self, shapeCast_self, shapeCast_self]
  rfl

/-- One entry of the block of `h`. -/
theorem k1_h (v0 : Vec Ideal S512x7168 .fp8e4m3) (v2 : Vec Ideal S512x1 .f32) (v4 : Vec Ideal S7168x256 .fp8e4m3) (v8 : Vec Ideal S1x256 .f32)
    (v12 : Vec Ideal S7168x256 .fp8e4m3) (v16 : Vec Ideal S1x256 .f32) (r : Fin 512) (c : Fin 256) :
    k1_pay30 (F := Ideal) v0 v2 v4 v8 v12 v16 (ix2 r c)
      = (((∑ k : Fin 7168, v0 (ix2 r k) * v4 (ix2 k c)) * v2 (ix2 r 0) * v8 (ix2 0 c) : EReal)
          * Ideal.logistic ((∑ k : Fin 7168, v0 (ix2 r k) * v4 (ix2 k c)) * v2 (ix2 r 0) * v8 (ix2 0 c)))
        * ((∑ k : Fin 7168, v0 (ix2 r k) * v12 (ix2 k c)) * v2 (ix2 r 0) * v16 (ix2 0 c)) := by
  have hg := prodV_apply v0 v2 v4 v8 r c
  have hu := prodV_apply v0 v2 v12 v16 r c
  rw [k1_pay30_eq]
  generalize prodV v0 v2 v4 v8 = g at hg ⊢
  generalize prodV v0 v2 v12 v16 = u at hu ⊢
  generalize ((∑ k : Fin 7168, v0 (ix2 r k) * v4 (ix2 k c)) * v2 (ix2 r 0) * v8 (ix2 0 c) : EReal) = x at hg ⊢
  generalize ((∑ k : Fin 7168, v0 (ix2 r k) * v12 (ix2 k c)) * v2 (ix2 r 0) * v16 (ix2 0 c) : EReal) = y at hu ⊢
  subst hg hu
  rfl

theorem k1_unslab (v : FVec Ideal S512x256 .f32) (z : Fin 1) (r : Fin 512) (c : Fin 256) :
    shapeCast S1x512x256 v shapeCasts_S512x256_S1x512x256 (ix3 z r c) = v (ix2 r c) := by
  pointwise

theorem k1_lo (v : FVec Ideal S512x256 .f32) (r : Fin 512) (l : Fin 128) :
    extractStridedSlice S512x128 ![0, 0] v slices_S512x256_o0_0_S512x128 (ix2 r l) = v (ix2 r ⟨l.val, by omega⟩) := by
  pointwise

theorem k1_hi (v : FVec Ideal S512x256 .f32) (r : Fin 512) (l : Fin 128) :
    extractStridedSlice S512x128 ![0, 128] v slices_S512x256_o0_128_S512x128 (ix2 r l) = v (ix2 r ⟨128 + l.val, by omega⟩) := by
  pointwise

theorem k1_pay31_apply (v0 : Vec Ideal S512x7168 .fp8e4m3) (v2 : Vec Ideal S512x1 .f32) (v4 : Vec Ideal S7168x256 .fp8e4m3) (v8 : Vec Ideal S1x256 .f32)
    (v12 : Vec Ideal S7168x256 .fp8e4m3) (v16 : Vec Ideal S1x256 .f32) (z : Fin 1) (r : Fin 512) (c : Fin 256) :
    k1_pay31 (F := Ideal) v0 v2 v4 v8 v12 v16 (ix3 z r c) = k1_pay30 (F := Ideal) v0 v2 v4 v8 v12 v16 (ix2 r c) := by
  unfold k1_pay31
  generalize k1_pay30 (F := Ideal) v0 v2 v4 v8 v12 v16 = h
  exact k1_unslab h z r c

theorem k1_pay32_apply (v0 : Vec Ideal S512x7168 .fp8e4m3) (v2 : Vec Ideal S512x1 .f32) (v4 : Vec Ideal S7168x256 .fp8e4m3) (v8 : Vec Ideal S1x256 .f32)
    (v12 : Vec Ideal S7168x256 .fp8e4m3) (v16 : Vec Ideal S1x256 .f32) (r : Fin 512) (l : Fin 128) :
    k1_pay32 (F := Ideal) v0 v2 v4 v8 v12 v16 (ix2 r l)
      = max (max (k1_pay30 (F := Ideal) v0 v2 v4 v8 v12 v16 (ix2 r ⟨l.val, by omega⟩)) (-(k1_pay30 (F := Ideal) v0 v2 v4 v8 v12 v16 (ix2 r ⟨l.val, by omega⟩)) : EReal))
          (max (k1_pay30 (F := Ideal) v0 v2 v4 v8 v12 v16 (ix2 r ⟨128 + l.val, by omega⟩)) (-(k1_pay30 (F := Ideal) v0 v2 v4 v8 v12 v16 (ix2 r ⟨128 + l.val, by omega⟩)) : EReal)) := by
  unfold k1_pay32
  generalize k1_pay30 (F := Ideal) v0 v2 v4 v8 v12 v16 = h
  rw [← k1_lo h r l, ← k1_hi h r l]
  generalize extractStridedSlice S512x128 ![0, 0] h slices_S512x256_o0_0_S512x128 = a
  generalize extractStridedSlice S512x128 ![0, 128] h slices_S512x256_o0_128_S512x128 = b
  rfl

end Cert.KernelIdeal.Whole
-- ==== Proof.KerHidden.lean ====
module

public import proofs.«01_k».proof.Proof.KerGate
public import proofs.«01_k».proof.Proof.GateDat

@[expose] public section

noncomputable section

namespace Cert.KernelIdeal.Whole

open Cert.KernelIdeal Cert.KernelIdeal.Gen
open Idealize.ShloMosaic Idealize.ShloMosaic.TcCoe Idealize.SL.Sem
open Idealize.ShloMosaic.Pipeline (Dat)

/-! # The second kernel's blocks, at an index of the arrays -/

variable (V : (c : Dev nD) → (b : Ref sig .tc) → Buf (Elt Ideal) ((c : Thread nD τ).loc b))

theorem lt108 (t : Fin cfg1.N) : t.val < 108 := lt_of_lt_of_eq t.isLt N_1

/-- Row `r` of point `t`'s row block. -/
def row1 (t : Fin cfg1.N) (r : Fin 512) : Fin 3072 := ⟨512 * (t.val / 18) + r.val, by have := lt108 t; omega⟩
/-- Column `c` of point `t`'s column block. -/
def col1 (t : Fin cfg1.N) (c : Fin 256) : Fin 4608 := ⟨256 * (t.val % 18) + c.val, by omega⟩

theorem ix1_0 : ∀ t : Fin cfg1.N, win1_0.index t 0 = t.val / 18 ∧ win1_0.index t 1 = 0 :=
  (by decide +kernel : ∀ t : Fin grid1.N, win1_0.index t 0 = t.val / 18 ∧ win1_0.index t 1 = 0)
theorem ix1_1 : ∀ t : Fin cfg1.N, win1_1.index t 0 = t.val / 18 ∧ win1_1.index t 1 = 0 :=
  (by decide +kernel : ∀ t : Fin grid1.N, win1_1.index t 0 = t.val / 18 ∧ win1_1.index t 1 = 0)
theorem ix1_2 : ∀ t : Fin cfg1.N, win1_2.index t 0 = 0 ∧ win1_2.index t 1 = t.val % 18 :=
  (by decide +kernel : ∀ t : Fin grid1.N, win1_2.index t 0 = 0 ∧ win1_2.index t 1 = t.val % 18)
theorem ix1_3 : ∀ t : Fin cfg1.N, win1_3.index t 0 = 0 ∧ win1_3.index t 1 = t.val % 18 + 18 :=
  (by decide +kernel : ∀ t : Fin grid1.N, win1_3.index t 0 = 0 ∧ win1_3.index t 1 = t.val % 18 + 18)
theorem ix1_4 : ∀ t : Fin cfg1.N, win1_4.index t 0 = 0 ∧ win1_4.index t 1 = t.val % 18 :=
  (by decide +kernel : ∀ t : Fin grid1.N, win1_4.index t 0 = 0 ∧ win1_4.index t 1 = t.val % 18)
theorem ix1_5 : ∀ t : Fin cfg1.N, win1_5.index t 0 = 0 ∧ win1_5.index t 1 = t.val % 18 + 18 :=
  (by decide +kernel : ∀ t : Fin grid1.N, win1_5.index t 0 = 0 ∧ win1_5.index t 1 = t.val % 18 + 18)
theorem ix1_6 : ∀ t : Fin cfg1.N, win1_6.index t 0 = t.val / 18 ∧ win1_6.index t 1 = 0 :=
  (by decide +kernel : ∀ t : Fin grid1.N, win1_6.index t 0 = t.val / 18 ∧ win1_6.index t 1 = 0)
theorem ix1_7 : ∀ t : Fin cfg1.N, win1_7.index t 0 = t.val / 18 ∧ win1_7.index t 1 = 0 :=
  (by decide +kernel : ∀ t : Fin grid1.N, win1_7.index t 0 = t.val / 18 ∧ win1_7.index t 1 = 0)

theorem read1_0 (t : Fin cfg1.N) (G : Vec Ideal S3072x7168 .fp8e4m3) (r : Fin 512) (k : Fin 7168) :
    ((cfg1.win 0).blk t).view.read (Elt Ideal) G (ix2 r k) = G (ix2 (row1 t r) (k)) := by
  refine congrArg G (funext fun a => Fin.ext ?_)
  fin_cases a
  · show win1_0.index t 0 * 512 + 1 * r.val = 512 * (t.val / 18) + r.val
    rw [(ix1_0 t).1]; omega
  · show win1_0.index t 1 * 7168 + 1 * k.val = k.val
    rw [(ix1_0 t).2]; omega
theorem read1_1 (t : Fin cfg1.N) (G : Vec Ideal S3072x1 .f32) (r : Fin 512) (k : Fin 1) :
    ((cfg1.win 1).blk t).view.read (Elt Ideal) G (ix2 r k) = G (ix2 (row1 t r) (k)) := by
  refine congrArg G (funext fun a => Fin.ext ?_)
  fin_cases a
  · show win1_1.index t 0 * 512 + 1 * r.val = 512 * (t.val / 18) + r.val
    rw [(ix1_1 t).1]; omega
  · show win1_1.index t 1 * 1 + 1 * k.val = k.val
    rw [(ix1_1 t).2]; omega
theorem read1_2 (t : Fin cfg1.N) (G : Vec Ideal S7168x9216 .fp8e4m3) (r : Fin 7168) (k : Fin 256) :
    ((cfg1.win 2).blk t).view.read (Elt Ideal) G (ix2 r k) = G (ix2 (r) (Spec.gateCol (col1 t k))) := by
  refine congrArg G (funext fun a => Fin.ext ?_)
  fin_cases a
  · show win1_2.index t 0 * 7168 + 1 * r.val = r.val
    rw [(ix1_2 t).1]; omega
  · show win1_2.index t 1 * 256 + 1 * k.val = 256 * (t.val % 18) + k.val
    rw [(ix1_2 t).2]; omega
theorem read1_3 (t : Fin cfg1.N) (G : Vec Ideal S7168x9216 .fp8e4m3) (r : Fin 7168) (k : Fin 256) :
    ((cfg1.win 3).blk t).view.read (Elt Ideal) G (ix2 r k) = G (ix2 (r) (Spec.upCol (col1 t k))) := by
  refine congrArg G (funext fun a => Fin.ext ?_)
  fin_cases a
  · show win1_3.index t 0 * 7168 + 1 * r.val = r.val
    rw [(ix1_3 t).1]; omega
  · show win1_3.index t 1 * 256 + 1 * k.val = 4608 + (256 * (t.val % 18) + k.val)
    rw [(ix1_3 t).2]; omega
theorem read1_4 (t : Fin cfg1.N) (G : Vec Ideal S1x9216 .f32) (r : Fin 1) (k : Fin 256) :
    ((cfg1.win 4).blk t).view.read (Elt Ideal) G (ix2 r k) = G (ix2 (r) (Spec.gateCol (col1 t k))) := by
  refine congrArg G (funext fun a => Fin.ext ?_)
  fin_cases a
  · show win1_4.index t 0 * 1 + 1 * r.val = r.val
    rw [(ix1_4 t).1]; omega
  · show win1_4.index t 1 * 256 + 1 * k.val = 256 * (t.val % 18) + k.val
    rw [(ix1_4 t).2]; omega
theorem read1_5 (t : Fin cfg1.N) (G : Vec Ideal S1x9216 .f32) (r : Fin 1) (k : Fin 256) :
    ((cfg1.win 5).blk t).view.read (Elt Ideal) G (ix2 r k) = G (ix2 (r) (Spec.upCol (col1 t k))) := by
  refine congrArg G (funext fun a => Fin.ext ?_)
  fin_cases a
  · show win1_5.index t 0 * 1 + 1 * r.val = r.val
    rw [(ix1_5 t).1]; omega
  · show win1_5.index t 1 * 256 + 1 * k.val = 4608 + (256 * (t.val % 18) + k.val)
    rw [(ix1_5 t).2]; omega
theorem read1_6 (t : Fin cfg1.N) (G : Vec Ideal S3072x1 .f32) (r : Fin 512) (k : Fin 1) :
    ((cfg1.win 6).blk t).view.read (Elt Ideal) G (ix2 r k) = G (ix2 (row1 t r) (k)) := by
  refine congrArg G (funext fun a => Fin.ext ?_)
  fin_cases a
  · show win1_6.index t 0 * 512 + 1 * r.val = 512 * (t.val / 18) + r.val
    rw [(ix1_6 t).1]; omega
  · show win1_6.index t 1 * 1 + 1 * k.val = k.val
    rw [(ix1_6 t).2]; omega
theorem read1_7 (t : Fin cfg1.N) (G : Vec Ideal S3072x4608 .fp8e4m3) (r : Fin 512) (k : Fin 4608) :
    ((cfg1.win 7).blk t).view.read (Elt Ideal) G (ix2 r k) = G (ix2 (row1 t r) (k)) := by
  refine congrArg G (funext fun a => Fin.ext ?_)
  fin_cases a
  · show win1_7.index t 0 * 512 + 1 * r.val = 512 * (t.val / 18) + r.val
    rw [(ix1_7 t).1]; omega
  · show win1_7.index t 1 * 4608 + 1 * k.val = k.val
    rw [(ix1_7 t).2]; omega

/-- The codes of `x` as the call finds them. -/
abbrev xq (c : Dev nD) : Vec Ideal S3072x7168 .fp8e4m3 := V c main_v2_0
/-- The scales of `x` as the call finds them. -/
abbrev xs (c : Dev nD) : Vec Ideal S3072x1 .f32 := V c main_v2_1
/-- The weight codes as the call finds them. -/
abbrev wq (c : Dev nD) : Vec Ideal S7168x9216 .fp8e4m3 := V c main_arg1
/-- The weight scales as the call finds them. -/
abbrev ws (c : Dev nD) : Vec Ideal S1x9216 .f32 := V c main_v1

/-- One entry of a product, scaled by row and by column. -/
def prod1 (c : Dev nD) (r : Fin 3072) (j : Fin 9216) : EReal :=
  (∑ k : Fin 7168, xq V c (ix2 r k) * wq V c (ix2 k j)) * xs V c (ix2 r 0) * ws V c (ix2 0 j)

/-- One entry of the hidden activation. -/
def hid1 (c : Dev nD) (r : Fin 3072) (j : Fin 4608) : EReal :=
  prod1 V c r (Spec.gateCol j) * Ideal.logistic (prod1 V c r (Spec.gateCol j)) * prod1 V c r (Spec.upCol j)

/-- A point's block of `h`. -/
def hBlk (c : Dev nD) (t : Fin cfg1.N) : FVec Ideal S512x256 .f32 :=
  k1_pay30 (iblk1 V c 0 t) (iblk1 V c 1 t) (iblk1 V c 2 t) (iblk1 V c 4 t) (iblk1 V c 3 t) (iblk1 V c 5 t)

theorem hBlk_apply (c : Dev nD) (t : Fin cfg1.N) (r : Fin 512) (k : Fin 256) :
    hBlk V c t (ix2 r k) = hid1 V c (row1 t r) (col1 t k) := by
  have e0 : ∀ k, iblk1 V c 0 t (ix2 r k) = xq V c (ix2 (row1 t r) k) := fun k => read1_0 t _ r k
  have e1 : iblk1 V c 1 t (ix2 r 0) = xs V c (ix2 (row1 t r) 0) := read1_1 t _ r 0
  have e2 : ∀ i, iblk1 V c 2 t (ix2 i k) = wq V c (ix2 i (Spec.gateCol (col1 t k))) := fun i => read1_2 t _ i k
  have e3 : ∀ i, iblk1 V c 3 t (ix2 i k) = wq V c (ix2 i (Spec.upCol (col1 t k))) := fun i => read1_3 t _ i k
  have e4 : iblk1 V c 4 t (ix2 0 k) = ws V c (ix2 0 (Spec.gateCol (col1 t k))) := read1_4 t _ 0 k
  have e5 : iblk1 V c 5 t (ix2 0 k) = ws V c (ix2 0 (Spec.upCol (col1 t k))) := read1_5 t _ 0 k
  unfold hBlk
  refine (k1_h (iblk1 V c 0 t) (iblk1 V c 1 t) (iblk1 V c 2 t) (iblk1 V c 4 t) (iblk1 V c 3 t) (iblk1 V c 5 t) r k).trans ?_
  simp only [e0, e1, e2, e3, e4, e5]
  rfl

theorem hAt_apply (c : Dev nD) (n : ℕ) (r : Fin 512) (k : Fin 256) :
    hAt V c n (ix3 0 r k) = hid1 V c (row1 (pt n) r) (col1 (pt n) k) :=
  (k1_pay31_apply (iblk1 V c 0 (pt n)) (iblk1 V c 1 (pt n)) (iblk1 V c 2 (pt n)) (iblk1 V c 4 (pt n)) (iblk1 V c 3 (pt n)) (iblk1 V c 5 (pt n)) 0 r k).trans
    (hBlk_apply V c (pt n) r k)

theorem laneAt_apply (c : Dev nD) (n : ℕ) (r : Fin 512) (l : Fin 128) :
    laneAt V c n (ix2 r l)
      = max (max (hid1 V c (row1 (pt n) r) (col1 (pt n) ⟨l.val, by omega⟩)) (-(hid1 V c (row1 (pt n) r) (col1 (pt n) ⟨l.val, by omega⟩))))
          (max (hid1 V c (row1 (pt n) r) (col1 (pt n) ⟨128 + l.val, by omega⟩)) (-(hid1 V c (row1 (pt n) r) (col1 (pt n) ⟨128 + l.val, by omega⟩)))) := by
  refine (k1_pay32_apply (iblk1 V c 0 (pt n)) (iblk1 V c 1 (pt n)) (iblk1 V c 2 (pt n)) (iblk1 V c 4 (pt n)) (iblk1 V c 3 (pt n)) (iblk1 V c 5 (pt n)) r l).trans ?_
  rw [← hBlk_apply, ← hBlk_apply]
  rfl

/-! ## Row blocks -/

/-- Row `r` of row block `b`. -/
def rowB (b : Fin 6) (r : Fin 512) : Fin 3072 := ⟨512 * b.val + r.val, by omega⟩
/-- Column `c` of column block `s`. -/
def colB (s : Fin 18) (c : Fin 256) : Fin 4608 := ⟨256 * s.val + c.val, by omega⟩

theorem pt_step (b : Fin 6) (s : Fin 18) : (pt (18 * b.val + s.val)).val = 18 * b.val + s.val := by
  show (18 * b.val + s.val) % 108 = _
  omega

theorem row1_step (b : Fin 6) (s : Fin 18) (r : Fin 512) : row1 (pt (18 * b.val + s.val)) r = rowB b r :=
  Fin.ext (by show 512 * ((pt (18 * b.val + s.val)).val / 18) + r.val = 512 * b.val + r.val; rw [pt_step]; omega)
theorem col1_step (b : Fin 6) (s : Fin 18) (k : Fin 256) : col1 (pt (18 * b.val + s.val)) k = colB s k :=
  Fin.ext (by show 256 * ((pt (18 * b.val + s.val)).val % 18) + k.val = 256 * s.val + k.val; rw [pt_step]; omega)

/-- The carried blocks hold the row block's hidden activation. -/
theorem hFull_apply (c : Dev nD) (b : Fin 6) (s : Fin 18) (r : Fin 512) (k : Fin 256) :
    hFull V c b.val (ix3 s r k) = hid1 V c (rowB b r) (colB s k) := by
  have h := hAt_apply V c (18 * b.val + s.val) r k
  rw [row1_step, col1_step] at h
  exact h

theorem laneAt_le (c : Dev nD) (b : Fin 6) (s : Fin 18) (r : Fin 512) (l : Fin 128) (B : EReal) :
    laneAt V c (18 * b.val + s.val) (ix2 r l) ≤ B
      ↔ max (hid1 V c (rowB b r) (colB s ⟨l.val, by omega⟩)) (-(hid1 V c (rowB b r) (colB s ⟨l.val, by omega⟩))) ≤ B
        ∧ max (hid1 V c (rowB b r) (colB s ⟨128 + l.val, by omega⟩)) (-(hid1 V c (rowB b r) (colB s ⟨128 + l.val, by omega⟩))) ≤ B := by
  rw [laneAt_apply, row1_step, col1_step, col1_step, max_le_iff]

theorem amaxAt_le (c : Dev nD) (b : Fin 6) (r : Fin 512) (l : Fin 128) (B : EReal) :
    ∀ k (hk : k < 18), amaxAt V c b.val k (ix2 r l) ≤ B ↔ ∀ s : Fin 18, s.val ≤ k → laneAt V c (18 * b.val + s.val) (ix2 r l) ≤ B
  | 0, hk => by
    constructor
    · intro h s hs
      obtain rfl : s = 0 := Fin.ext (by simpa using hs)
      exact h
    · intro h
      exact h 0 le_rfl
  | k + 1, hk => by
    have e : amaxAt V c b.val (k + 1) (ix2 r l) = max (amaxAt V c b.val k (ix2 r l)) (laneAt V c (18 * b.val + (k + 1)) (ix2 r l)) := rfl
    rw [e, max_le_iff, amaxAt_le c b r l B k (by omega)]
    constructor
    · rintro ⟨h, h'⟩ s hs
      rcases Nat.lt_or_ge k s.val with hlt | hge
      · have hv : s.val = k + 1 := by omega
        rw [hv]; exact h'
      · exact h s hge
    · intro h
      exact ⟨fun s hs => h s (by omega), h ⟨k + 1, hk⟩ le_rfl⟩

/-- The greatest lane after the last step is the row's greatest magnitude. -/
theorem laneMax_amax (c : Dev nD) (b : Fin 6) (r : Fin 512) :
    laneMax (amaxAt V c b.val 17) r = Spec.rowMax (hid1 V c (rowB b r)) := by
  refine eq_of_forall_ge_iff fun B => ?_
  rw [Spec.le_rowMax]
  unfold laneMax
  rw [Finset.fold_max_le]
  constructor
  · rintro ⟨-, h⟩ j
    have hj := j.isLt
    have hl := (amaxAt_le V c b r ⟨j.val % 128, by omega⟩ B 17 (by omega)).1 (h _ (Finset.mem_univ _)) ⟨j.val / 256, by omega⟩ (by show j.val / 256 ≤ 17; omega)
    rw [laneAt_le] at hl
    by_cases hc : j.val % 256 < 128
    · have e : colB ⟨j.val / 256, by omega⟩ ⟨j.val % 128, by omega⟩ = j :=
        Fin.ext (by show 256 * (j.val / 256) + j.val % 128 = j.val; omega)
      have h1 := hl.1
      erw [e] at h1
      exact h1
    · have e : colB ⟨j.val / 256, by omega⟩ ⟨128 + j.val % 128, by omega⟩ = j :=
        Fin.ext (by show 256 * (j.val / 256) + (128 + j.val % 128) = j.val; omega)
      have h1 := hl.2
      erw [e] at h1
      exact h1
  · intro h
    refine ⟨bot_le, fun l _ => ?_⟩
    rw [amaxAt_le V c b r l B 17 (by omega)]
    intro s _
    rw [laneAt_le]
    exact ⟨h _, h _⟩

end Cert.KernelIdeal.Whole
-- ==== Proof.KerCodes.lean ====
module

public import proofs.«01_k».proof.Proof.KerGate

@[expose] public section

noncomputable section

namespace Cert.KernelIdeal.Whole

open Cert.KernelIdeal Cert.KernelIdeal.Gen
open Idealize.ShloMosaic Idealize.ShloMosaic.TcCoe Idealize.SL.Sem
open Idealize.ShloMosaic.Pipeline (Dat)

/-! # The codes of a row block, at an index -/

/-- The codes of a row block: each carried number against its row's factor. -/
def rowCodes (H : Vec Ideal S18x512x256 .f32) (A : Vec Ideal S512x128 .f32) : S512x4608.Idx → EReal := fun i =>
  Spec.code (H (ix3 (⟨(i 1).val / 256, by have h : (i 1).val < 4608 := (i 1).isLt; omega⟩ : Fin 18) (i 0)
    (⟨(i 1).val % 256, by omega⟩ : Fin 256))) (negScale (F := Ideal) A (ix2 (i 0) 0))

/-- One slab's codes are the row block's over the slab's columns. -/
theorem slab_codes (H : Vec Ideal S18x512x256 .f32) (A : Vec Ideal S512x128 .f32) (k o : ℕ) (hk : k < 18) (ho : o = 256 * k)
    (inb : ∀ a, (![k, 0, 0] : Fin 3 → ℕ) a + S1x512x256.size a ≤ S18x512x256.size a)
    (inb' : ∀ a, (![0, o] : Fin 2 → ℕ) a + S512x256.size a ≤ S512x4608.size a) (y : S512x256.Idx) :
    slabCodes (negScale A) (slab H k inb) y = rowCodes H A ((Rect.unit (s := S512x4608) ![0, o] S512x256.size inb').emb y) := by
  obtain ⟨r, c, rfl⟩ : ∃ (r : Fin 512) (c : Fin 256), y = ix2 r c := ⟨y 0, y 1, eq_ix2 y⟩
  rw [slabCodes_apply]
  unfold rowCodes
  have e0 : (((Rect.unit (s := S512x4608) ![0, o] S512x256.size inb').emb (ix2 r c)) 0 : Fin 512) = r :=
    Fin.ext (show 0 + 1 * r.val = r.val by omega)
  have e1 : (((Rect.unit (s := S512x4608) ![0, o] S512x256.size inb').emb (ix2 r c)) 1).val = o + c.val :=
    show o + 1 * c.val = o + c.val by omega
  have hs : slab H k inb (ix3 0 r c) = H (ix3 (⟨k, hk⟩ : Fin 18) r c) := by
    unfold slab VecWindow.window
    refine congrArg H (funext fun a => Fin.ext ?_)
    fin_cases a
    · show k + 1 * 0 = k
      omega
    · show 0 + 1 * r.val = r.val
      omega
    · show 0 + 1 * c.val = c.val
      omega
  rw [hs]
  have i0 : (⟨(((Rect.unit (s := S512x4608) ![0, o] S512x256.size inb').emb (ix2 r c)) 1).val / 256, by rw [e1]; omega⟩ : Fin 18) = ⟨k, hk⟩ :=
    Fin.ext (by show (((Rect.unit (s := S512x4608) ![0, o] S512x256.size inb').emb (ix2 r c)) 1).val / 256 = k; rw [e1]; omega)
  have i1 : (⟨(((Rect.unit (s := S512x4608) ![0, o] S512x256.size inb').emb (ix2 r c)) 1).val % 256, by omega⟩ : Fin 256) = c :=
    Fin.ext (by show (((Rect.unit (s := S512x4608) ![0, o] S512x256.size inb').emb (ix2 r c)) 1).val % 256 = c.val; rw [e1]; omega)
  have a0 : H (ix3 (⟨k, hk⟩ : Fin 18) r c)
      = H (ix3 (⟨(((Rect.unit (s := S512x4608) ![0, o] S512x256.size inb').emb (ix2 r c)) 1).val / 256, by rw [e1]; omega⟩ : Fin 18)
          (((Rect.unit (s := S512x4608) ![0, o] S512x256.size inb').emb (ix2 r c)) 0)
          (⟨(((Rect.unit (s := S512x4608) ![0, o] S512x256.size inb').emb (ix2 r c)) 1).val % 256, by omega⟩ : Fin 256)) :=
    congrArg H (congr (congr (congrArg ix3 i0.symm) e0.symm) i1.symm)
  have a1 : negScale (F := Ideal) A (ix2 r 0) = negScale (F := Ideal) A (ix2 (((Rect.unit (s := S512x4608) ![0, o] S512x256.size inb').emb (ix2 r c)) 0) 0) :=
    congrArg (fun q : Fin 512 => negScale (F := Ideal) A (ix2 q 0)) e0.symm
  exact congr (congrArg Spec.code a0) a1

theorem pay13_codes (e f : IVec S512x1 32) (v : Vec Ideal S1x512x256 .f32) : k1_pay13 (F := Ideal) e f v = slabCodes (k1_pay12 (F := Ideal) e f) v := by
  unfold k1_pay13 slabCodes
  generalize k1_pay12 (F := Ideal) e f = n
  rfl
theorem pay14_codes (e f : IVec S512x1 32) (v : Vec Ideal S1x512x256 .f32) : k1_pay14 (F := Ideal) e f v = slabCodes (k1_pay12 (F := Ideal) e f) v := by
  unfold k1_pay14 slabCodes
  generalize k1_pay12 (F := Ideal) e f = n
  rfl
theorem pay15_codes (n : FVec Ideal S512x1 .f32) (v : Vec Ideal S1x512x256 .f32) : k1_pay15 (F := Ideal) n v = slabCodes n v := by
  unfold k1_pay15 slabCodes; rfl
theorem pay16_codes (n : FVec Ideal S512x1 .f32) (v : Vec Ideal S1x512x256 .f32) : k1_pay16 (F := Ideal) n v = slabCodes n v := by
  unfold k1_pay16 slabCodes; rfl
theorem pay17_codes (n : FVec Ideal S512x1 .f32) (v : Vec Ideal S1x512x256 .f32) : k1_pay17 (F := Ideal) n v = slabCodes n v := by
  unfold k1_pay17 slabCodes; rfl
theorem pay20_codes (n : FVec Ideal S512x1 .f32) (v : Vec Ideal S1x512x256 .f32) : k1_pay20 (F := Ideal) n v = slabCodes n v := by
  unfold k1_pay20 slabCodes; rfl
theorem pay21_codes (n : FVec Ideal S512x1 .f32) (v : Vec Ideal S1x512x256 .f32) : k1_pay21 (F := Ideal) n v = slabCodes n v := by
  unfold k1_pay21 slabCodes; rfl
theorem pay22_codes (n : FVec Ideal S512x1 .f32) (v : Vec Ideal S1x512x256 .f32) : k1_pay22 (F := Ideal) n v = slabCodes n v := by
  unfold k1_pay22 slabCodes; rfl
theorem pay23_codes (n : FVec Ideal S512x1 .f32) (v : Vec Ideal S1x512x256 .f32) : k1_pay23 (F := Ideal) n v = slabCodes n v := by
  unfold k1_pay23 slabCodes; rfl
theorem pay24_codes (n : FVec Ideal S512x1 .f32) (v : Vec Ideal S1x512x256 .f32) : k1_pay24 (F := Ideal) n v = slabCodes n v := by
  unfold k1_pay24 slabCodes; rfl
theorem pay25_codes (n : FVec Ideal S512x1 .f32) (v : Vec Ideal S1x512x256 .f32) : k1_pay25 (F := Ideal) n v = slabCodes n v := by
  unfold k1_pay25 slabCodes; rfl
theorem pay26_codes (n : FVec Ideal S512x1 .f32) (v : Vec Ideal S1x512x256 .f32) : k1_pay26 (F := Ideal) n v = slabCodes n v := by
  unfold k1_pay26 slabCodes; rfl
theorem pay27_codes (n : FVec Ideal S512x1 .f32) (v : Vec Ideal S1x512x256 .f32) : k1_pay27 (F := Ideal) n v = slabCodes n v := by
  unfold k1_pay27 slabCodes; rfl
theorem pay28_codes (n : FVec Ideal S512x1 .f32) (v : Vec Ideal S1x512x256 .f32) : k1_pay28 (F := Ideal) n v = slabCodes n v := by
  unfold k1_pay28 slabCodes; rfl
theorem pay3_codes (n : FVec Ideal S512x1 .f32) (v : Vec Ideal S1x512x256 .f32) : k1_pay3 (F := Ideal) n v = slabCodes n v := by
  unfold k1_pay3 slabCodes; rfl
theorem pay4_codes (n : FVec Ideal S512x1 .f32) (v : Vec Ideal S1x512x256 .f32) : k1_pay4 (F := Ideal) n v = slabCodes n v := by
  unfold k1_pay4 slabCodes; rfl
theorem pay19_codes (n : FVec Ideal S512x1 .f32) (v : Vec Ideal S1x512x256 .f32) :
    k1_pay19 (F := Ideal) (k1_pay18 (F := Ideal) n v) (Scalar.ofBits (F := Ideal) .f32 0xC3E00000#32) (Scalar.ofBits (F := Ideal) .f32 0x43E00000#32) = slabCodes n v := by
  unfold k1_pay19 k1_pay18 slabCodes; rfl
theorem pay2_codes (n : FVec Ideal S512x1 .f32) (v : Vec Ideal S1x512x256 .f32) :
    k1_pay2 (F := Ideal) (k1_pay29 (F := Ideal) n v) (Scalar.ofBits (F := Ideal) .f32 0xC3E00000#32) (Scalar.ofBits (F := Ideal) .f32 0x43E00000#32) = slabCodes n v := by
  unfold k1_pay2 k1_pay29 slabCodes; rfl

/-- The codes of a row block, read back. -/
theorem codesOf_apply (H : Vec Ideal S18x512x256 .f32) (A : Vec Ideal S512x128 .f32) (i : S512x4608.Idx) :
    codesOf (F := Ideal) H A i = rowCodes H A i := by
  unfold codesOf
  refine View.canon_apply_of_pieces (rowCodes H A) (codePieces H A) ?_ i (codePieces_cover H A i)
  intro p hp
  unfold codePieces at hp
  simp only [List.mem_cons, List.not_mem_nil, or_false] at hp
  rcases hp with rfl | rfl | rfl | rfl | rfl | rfl | rfl | rfl | rfl | rfl | rfl | rfl | rfl | rfl | rfl | rfl | rfl | rfl
  · exact fun y => (congrFun (pay4_codes (negScale A) (slab H 17 inb_S18x512x256_S1x512x256_17_0_0)) y).trans (slab_codes H A 17 4352 (by omega) (by omega) inb_S18x512x256_S1x512x256_17_0_0 inb_S512x4608_S512x256_0_4352 y)
  · exact fun y => (congrFun (pay3_codes (negScale A) (slab H 16 inb_S18x512x256_S1x512x256_16_0_0)) y).trans (slab_codes H A 16 4096 (by omega) (by omega) inb_S18x512x256_S1x512x256_16_0_0 inb_S512x4608_S512x256_0_4096 y)
  · exact fun y => (congrFun (pay2_codes (negScale A) (slab H 15 inb_S18x512x256_S1x512x256_15_0_0)) y).trans (slab_codes H A 15 3840 (by omega) (by omega) inb_S18x512x256_S1x512x256_15_0_0 inb_S512x4608_S512x256_0_3840 y)
  · exact fun y => (congrFun (pay28_codes (negScale A) (slab H 14 inb_S18x512x256_S1x512x256_14_0_0)) y).trans (slab_codes H A 14 3584 (by omega) (by omega) inb_S18x512x256_S1x512x256_14_0_0 inb_S512x4608_S512x256_0_3584 y)
  · exact fun y => (congrFun (pay27_codes (negScale A) (slab H 13 inb_S18x512x256_S1x512x256_13_0_0)) y).trans (slab_codes H A 13 3328 (by omega) (by omega) inb_S18x512x256_S1x512x256_13_0_0 inb_S512x4608_S512x256_0_3328 y)
  · exact fun y => (congrFun (pay26_codes (negScale A) (slab H 12 inb_S18x512x256_S1x512x256_12_0_0)) y).trans (slab_codes H A 12 3072 (by omega) (by omega) inb_S18x512x256_S1x512x256_12_0_0 inb_S512x4608_S512x256_0_3072 y)
  · exact fun y => (congrFun (pay25_codes (negScale A) (slab H 11 inb_S18x512x256_S1x512x256_11_0_0)) y).trans (slab_codes H A 11 2816 (by omega) (by omega) inb_S18x512x256_S1x512x256_11_0_0 inb_S512x4608_S512x256_0_2816 y)
  · exact fun y => (congrFun (pay24_codes (negScale A) (slab H 10 inb_S18x512x256_S1x512x256_10_0_0)) y).trans (slab_codes H A 10 2560 (by omega) (by omega) inb_S18x512x256_S1x512x256_10_0_0 inb_S512x4608_S512x256_0_2560 y)
  · exact fun y => (congrFun (pay23_codes (negScale A) (slab H 9 inb_S18x512x256_S1x512x256_9_0_0)) y).trans (slab_codes H A 9 2304 (by omega) (by omega) inb_S18x512x256_S1x512x256_9_0_0 inb_S512x4608_S512x256_0_2304 y)
  · exact fun y => (congrFun (pay22_codes (negScale A) (slab H 8 inb_S18x512x256_S1x512x256_8_0_0)) y).trans (slab_codes H A 8 2048 (by omega) (by omega) inb_S18x512x256_S1x512x256_8_0_0 inb_S512x4608_S512x256_0_2048 y)
  · exact fun y => (congrFun (pay21_codes (negScale A) (slab H 7 inb_S18x512x256_S1x512x256_7_0_0)) y).trans (slab_codes H A 7 1792 (by omega) (by omega) inb_S18x512x256_S1x512x256_7_0_0 inb_S512x4608_S512x256_0_1792 y)
  · exact fun y => (congrFun (pay20_codes (negScale A) (slab H 6 inb_S18x512x256_S1x512x256_6_0_0)) y).trans (slab_codes H A 6 1536 (by omega) (by omega) inb_S18x512x256_S1x512x256_6_0_0 inb_S512x4608_S512x256_0_1536 y)
  · exact fun y => (congrFun (pay19_codes (negScale A) (slab H 5 inb_S18x512x256_S1x512x256_5_0_0)) y).trans (slab_codes H A 5 1280 (by omega) (by omega) inb_S18x512x256_S1x512x256_5_0_0 inb_S512x4608_S512x256_0_1280 y)
  · exact fun y => (congrFun (pay17_codes (negScale A) (slab H 4 inb_S18x512x256_S1x512x256_4_0_0)) y).trans (slab_codes H A 4 1024 (by omega) (by omega) inb_S18x512x256_S1x512x256_4_0_0 inb_S512x4608_S512x256_0_1024 y)
  · exact fun y => (congrFun (pay16_codes (negScale A) (slab H 3 inb_S18x512x256_S1x512x256_3_0_0)) y).trans (slab_codes H A 3 768 (by omega) (by omega) inb_S18x512x256_S1x512x256_3_0_0 inb_S512x4608_S512x256_0_768 y)
  · exact fun y => (congrFun (pay15_codes (negScale A) (slab H 2 inb_S18x512x256_S1x512x256_2_0_0)) y).trans (slab_codes H A 2 512 (by omega) (by omega) inb_S18x512x256_S1x512x256_2_0_0 inb_S512x4608_S512x256_0_512 y)
  · exact fun y => (congrFun (pay14_codes (expoOf A) k1_pay11 (slab H 1 inb_S18x512x256_S1x512x256_1_0_0)) y).trans (slab_codes H A 1 256 (by omega) (by omega) inb_S18x512x256_S1x512x256_1_0_0 inb_S512x4608_S512x256_0_256 y)
  · exact fun y => (congrFun (pay13_codes (expoOf A) k1_pay11 (slab H 0 inb_S18x512x256_S1x512x256_0_0_0)) y).trans (slab_codes H A 0 0 (by omega) (by omega) inb_S18x512x256_S1x512x256_0_0_0 inb_S512x4608_S512x256_0_0 y)

end Cert.KernelIdeal.Whole
-- ==== Proof.KerGateArr.lean ====
module

public import proofs.«01_k».proof.Proof.KerHidden
public import proofs.«01_k».proof.Proof.KerCodes

@[expose] public section

noncomputable section

namespace Cert.KernelIdeal.Whole

open Cert.KernelIdeal Cert.KernelIdeal.Gen
open Idealize.ShloMosaic Idealize.ShloMosaic.TcCoe Idealize.SL.Sem
open Idealize.ShloMosaic.Pipeline (Dat)

/-! # The second kernel's arrays: every row's scale and codes of the hidden activation -/

variable (V : (c : Dev nD) → (b : Ref sig .tc) → Buf (Elt Ideal) ((c : Thread nD τ).loc b))

/-- The scale of every row. -/
def scale1 (c : Dev nD) : Vec Ideal S3072x1 .f32 := fun i => Spec.scaleRow (hid1 V c (i 0))
/-- The codes of every row. -/
def codes1 (c : Dev nD) : Vec Ideal S3072x4608 .fp8e4m3 := fun i => Spec.codeRow (hid1 V c (i 0)) (i 1)

/-- The row block of a point. -/
def blkOf (t : Fin cfg1.N) : Fin 6 := ⟨t.val / 18, by have := lt108 t; omega⟩

theorem flushed1_6 (c : Dev nD) (t : Fin cfg1.N) :
    (dat1 V c).flushed 6 t = ((cfg1.win 6).blk t).view.read (Elt Ideal) (scale1 V c) := by
  show (cfg1.win 6).cut (grid1.coords t) ((dat1 V c).after 6 t) = _
  rw [after1_6]
  funext y
  obtain ⟨r, k, rfl⟩ : ∃ (r : Fin 512) (k : Fin 1), y = ix2 r k := ⟨y 0, y 1, eq_ix2 y⟩
  obtain rfl : k = 0 := Subsingleton.elim _ _
  rw [read1_6]
  refine (scaleOf_apply (amaxAt V c (blkOf t).val 17) r).trans ?_
  rw [laneMax_amax]
  rfl

theorem rowCodes_ix2 (H : Vec Ideal S18x512x256 .f32) (A : Vec Ideal S512x128 .f32) (r : Fin 512) (k : Fin 4608) :
    rowCodes H A (ix2 r k) = Spec.code (H (ix3 (⟨k.val / 256, by have h := k.isLt; omega⟩ : Fin 18) r (⟨k.val % 256, by omega⟩ : Fin 256)))
      (negScale (F := Ideal) A (ix2 r 0)) := by
  unfold rowCodes
  generalize negScale (F := Ideal) A = n
  rfl

theorem flushed1_7 (c : Dev nD) (t : Fin cfg1.N) :
    (dat1 V c).flushed 7 t = ((cfg1.win 7).blk t).view.read (Elt Ideal) (codes1 V c) := by
  show (cfg1.win 7).cut (grid1.coords t) ((dat1 V c).after 7 t) = _
  rw [after1_7]
  funext y
  obtain ⟨r, k, rfl⟩ : ∃ (r : Fin 512) (k : Fin 4608), y = ix2 r k := ⟨y 0, y 1, eq_ix2 y⟩
  rw [read1_7]
  refine (codesOf_apply (hFull V c (blkOf t).val) (amaxAt V c (blkOf t).val 17) (ix2 r k)).trans ?_
  have hk := k.isLt
  have e : colB ⟨k.val / 256, by omega⟩ ⟨k.val % 256, by omega⟩ = k :=
    Fin.ext (by show 256 * (k.val / 256) + k.val % 256 = k.val; omega)
  have h1 := (hFull_apply V c (blkOf t) ⟨k.val / 256, by omega⟩ r ⟨k.val % 256, by omega⟩).trans
    (congrArg (hid1 V c (rowB (blkOf t) r)) e)
  have h2 := (negScale_apply (amaxAt V c (blkOf t).val 17) r).trans
    (congrArg (fun q : EReal => Scale.rInv (q * Ideal.ofBits .f32 0x3B124925#32)) (laneMax_amax V c (blkOf t) r))
  rw [rowCodes_ix2, h1, h2]
  show _ = Spec.codeRow (hid1 V c (rowB (blkOf t) r)) k
  unfold Spec.codeRow Spec.target
  rfl

theorem flush1_6 : ∀ t : Fin cfg1.N, t.val % 18 = 17 → (cfg1.win 6).flush t = true :=
  (by decide +kernel : ∀ t : Fin grid1.N, t.val % 18 = 17 → win1_6.flush t = true)
theorem flush1_7 : ∀ t : Fin cfg1.N, t.val % 18 = 17 → (cfg1.win 7).flush t = true :=
  (by decide +kernel : ∀ t : Fin grid1.N, t.val % 18 = 17 → win1_7.flush t = true)

/-- The last step of a row block. -/
theorem last_step (n : ℕ) (h : n < 3072) : ∃ t : Fin cfg1.N, t.val = 18 * (n / 512) + 17 :=
  ⟨⟨18 * (n / 512) + 17, lt_of_lt_of_eq (by omega) N_1.symm⟩, rfl⟩

theorem cover1_arr6 (i : S3072x1.Idx) : ∃ t : Fin cfg1.N, (cfg1.win 6).flush t = true ∧ i ∈ ((cfg1.win 6).blk t).view.set := by
  have h0 : (i 0).val < 3072 := (i 0).isLt
  have h1 : (i 1).val < 1 := (i 1).isLt
  obtain ⟨t, ht⟩ := last_step (i 0).val h0
  refine ⟨t, flush1_6 t (by omega), ?_⟩
  have e := ix1_6 t
  show i ∈ ((View.whole main_v3_0).slice (win1_6.rect t)).set
  rw [View.set_slice_whole, Rect.mem_set_unit]
  intro a
  fin_cases a
  · show win1_6.index t 0 * 512 ≤ (i 0).val ∧ (i 0).val < win1_6.index t 0 * 512 + 512
    rw [e.1]; omega
  · show win1_6.index t 1 * 1 ≤ (i 1).val ∧ (i 1).val < win1_6.index t 1 * 1 + 1
    rw [e.2]; omega

theorem cover1_arr7 (i : S3072x4608.Idx) : ∃ t : Fin cfg1.N, (cfg1.win 7).flush t = true ∧ i ∈ ((cfg1.win 7).blk t).view.set := by
  have h0 : (i 0).val < 3072 := (i 0).isLt
  have h1 : (i 1).val < 4608 := (i 1).isLt
  obtain ⟨t, ht⟩ := last_step (i 0).val h0
  refine ⟨t, flush1_7 t (by omega), ?_⟩
  have e := ix1_7 t
  show i ∈ ((View.whole main_v3_1).slice (win1_7.rect t)).set
  rw [View.set_slice_whole, Rect.mem_set_unit]
  intro a
  fin_cases a
  · show win1_7.index t 0 * 512 ≤ (i 0).val ∧ (i 0).val < win1_7.index t 0 * 512 + 512
    rw [e.1]; omega
  · show win1_7.index t 1 * 4608 ≤ (i 1).val ∧ (i 1).val < win1_7.index t 1 * 4608 + 4608
    rw [e.2]; omega

/-- The scales' array after the call. -/
theorem final1_6 (c : Dev nD) : (dat1 V c).arrAt 6 cfg1.N = scale1 V c :=
  (dat1 V c).arrAt_eq_of_cover 6 (scale1 V c) (fun t _ => flushed1_6 V c t) cover1_arr6
/-- The codes' array after the call. -/
theorem final1_7 (c : Dev nD) : (dat1 V c).arrAt 7 cfg1.N = codes1 V c :=
  (dat1 V c).arrAt_eq_of_cover 7 (codes1 V c) (fun t _ => flushed1_7 V c t) cover1_arr7

end Cert.KernelIdeal.Whole
-- ==== Proof.KerRun.lean ====
module

public import proofs.«01_k».proof.Proof.Results
public import proofs.«01_k».proof.Proof.KerQuantArr
public import proofs.«01_k».proof.Proof.KerGateArr
public import proofs.«01_k».proof.Proof.Run

@[expose] public section

noncomputable section

namespace Cert.KernelIdeal.Whole

open Cert.KernelIdeal Cert.KernelIdeal.Gen
open Idealize.ShloMosaic Idealize.ShloMosaic.TcCoe Idealize.SL.Sem
open Idealize.ShloMosaic.Pipeline (Dat)

/-! # The kernel's four results, from its three arguments -/

variable (m : (ℓ : Loc nD τ sig) → Buf (Elt Ideal) ℓ) (ρ : Dev nD → PrngReg)

abbrev a0 (c : Dev nD) : Vec Ideal S1x3072x7168 .bf16 := m ((c : Thread nD τ).loc main_arg0)
abbrev a1 (c : Dev nD) : Vec Ideal S7168x9216 .fp8e4m3 := m ((c : Thread nD τ).loc main_arg1)
abbrev a2 (c : Dev nD) : Vec Ideal S9216 .f32 := m ((c : Thread nD τ).loc main_arg2)

theorem drop_x (v : FVec Ideal S1x3072x7168 .bf16) (r : Fin 3072) (k : Fin 7168) :
    shapeCast S3072x7168 v shapeCasts_S1x3072x7168_S3072x7168 (ix2 r k) = v (ix3 0 r k) := by
  pointwise
theorem row_s (v : FVec Ideal S9216 .f32) (z : Fin 1) (j : Fin 9216) :
    shapeCast S1x9216 v shapeCasts_S9216_S1x9216 (ix2 z j) = v (ix1 j) := by
  pointwise

/-- `x` as the first call finds it. -/
theorem V1_x (c : Dev nD) : xIn (V1 m ρ) c = shapeCast S3072x7168 (a0 m c) shapeCasts_S1x3072x7168_S3072x7168 := by
  show StableHlo.after [_, _] _ _ = _
  simp only [StableHlo.after_cons, StableHlo.after_nil]
  rw [StableHlo.reshape_result_ne, StableHlo.reshape_result']
  · rfl
  all_goals decide

/-- The weight scales before the first call. -/
theorem V1_s (c : Dev nD) : W1 m ρ c (Proc.devRef .tc main_v1) = shapeCast S1x9216 (a2 m c) shapeCasts_S9216_S1x9216 := by
  show StableHlo.after [_, _] _ _ = _
  simp only [StableHlo.after_cons, StableHlo.after_nil]
  rw [StableHlo.reshape_result', StableHlo.reshape_result_ne]
  · rfl
  all_goals decide

theorem xIn_row (c : Dev nD) (r : Fin 3072) : (fun k => xIn (V1 m ρ) c (ix2 r k)) = Spec.argX (a0 m c) r := by
  rw [V1_x]
  exact funext fun k => drop_x (a0 m c) r k

theorem codes0_eq (c : Dev nD) : codes0 (V1 m ρ) c = Spec.xCodes (a0 m c) := by
  funext i
  show Spec.codeRow (fun k => xIn (V1 m ρ) c (ix2 (i 0) k)) (i 1) = _
  erw [xIn_row]
  rfl
theorem scale0_eq (c : Dev nD) : scale0 (V1 m ρ) c = Spec.xScale (a0 m c) := by
  funext i
  show Spec.scaleRow (fun k => xIn (V1 m ρ) c (ix2 (i 0) k)) = _
  erw [xIn_row]
  rfl

/-! ## What the second call finds -/

theorem V2_xq (c : Dev nD) : xq (V2 m ρ) c = Spec.xCodes (a0 m c) :=
  (W2_arr m ρ c 1).trans ((final0_1 (V1 m ρ) c).trans (codes0_eq m ρ c))
theorem V2_xs (c : Dev nD) : xs (V2 m ρ) c = Spec.xScale (a0 m c) :=
  (W2_arr m ρ c 2).trans ((final0_2 (V1 m ρ) c).trans (scale0_eq m ρ c))
theorem V2_wq (c : Dev nD) : wq (V2 m ρ) c = a1 m c := W2_args m ρ c main_arg1 (by decide)
theorem V2_ws (c : Dev nD) : ws (V2 m ρ) c = shapeCast S1x9216 (a2 m c) shapeCasts_S9216_S1x9216 :=
  (W2_of m ρ c main_v1 (by decide +kernel)).trans (V1_s m ρ c)

theorem prod1_eq (c : Dev nD) (r : Fin 3072) (j : Fin 9216) :
    prod1 (V2 m ρ) c r j = Spec.prod (Spec.argX (a0 m c)) (Spec.argW (a1 m c)) (Spec.argS (a2 m c)) r j := by
  unfold prod1
  rw [V2_xq, V2_xs, V2_wq, V2_ws, row_s]
  rfl

theorem hid1_eq (c : Dev nD) (r : Fin 3072) :
    hid1 (V2 m ρ) c r = Spec.hidden (Spec.argX (a0 m c)) (Spec.argW (a1 m c)) (Spec.argS (a2 m c)) r := by
  funext j
  unfold hid1 Spec.hidden
  rw [prod1_eq, prod1_eq]

theorem scale1_eq (c : Dev nD) : scale1 (V2 m ρ) c = Spec.hScale (a0 m c) (a1 m c) (a2 m c) :=
  funext fun i => congrArg Spec.scaleRow (hid1_eq m ρ c (i 0))
theorem codes1_eq (c : Dev nD) : codes1 (V2 m ρ) c = Spec.hCodes (a0 m c) (a1 m c) (a2 m c) :=
  funext fun i => congrArg (fun f : Fin 4608 → EReal => Spec.codeRow f (i 1)) (hid1_eq m ρ c (i 0))

/-! ## After the second call -/

theorem W3_hs (c : Dev nD) : W3 m ρ c (Proc.devRef .tc main_v3_0) = Spec.hScale (a0 m c) (a1 m c) (a2 m c) :=
  (W3_arr m ρ c 6).trans ((final1_6 (V2 m ρ) c).trans (scale1_eq m ρ c))
theorem W3_hc (c : Dev nD) : W3 m ρ c (Proc.devRef .tc main_v3_1) = Spec.hCodes (a0 m c) (a1 m c) (a2 m c) :=
  (W3_arr m ρ c 7).trans ((final1_7 (V2 m ρ) c).trans (codes1_eq m ρ c))
theorem W3_xq (c : Dev nD) : W3 m ρ c (Proc.devRef .tc main_v2_0) = Spec.xCodes (a0 m c) :=
  (W3_of m ρ c main_v2_0 (by decide +kernel)).trans (V2_xq m ρ c)
theorem W3_xs (c : Dev nD) : W3 m ρ c (Proc.devRef .tc main_v2_1) = Spec.xScale (a0 m c) :=
  (W3_of m ρ c main_v2_1 (by decide +kernel)).trans (V2_xs m ρ c)

/-! ## The results -/

theorem res0 (c : Dev nD) : W4 m ρ c (Proc.devRef .tc main_v4)
    = shapeCast S1x3072x1 (Spec.hScale (a0 m c) (a1 m c) (a2 m c)) shapeCasts_S3072x1_S1x3072x1 := by
  have h := W3_hs m ρ c
  revert h
  show _ → StableHlo.after [_, _, _, _] (W3 m ρ c) _ = _
  generalize W3 m ρ c = M
  intro h
  simp only [StableHlo.after_cons, StableHlo.after_nil]
  rw [StableHlo.reshape_result_ne, StableHlo.reshape_result_ne, StableHlo.reshape_result_ne, StableHlo.reshape_result']
  · exact congrArg (fun v => shapeCast S1x3072x1 (v : Vec Ideal S3072x1 .f32) shapeCasts_S3072x1_S1x3072x1) h
  all_goals decide

theorem res1 (c : Dev nD) : W4 m ρ c (Proc.devRef .tc main_v5)
    = shapeCast S1x3072x4608 (Spec.hCodes (a0 m c) (a1 m c) (a2 m c)) shapeCasts_S3072x4608_S1x3072x4608 := by
  have h := W3_hc m ρ c
  revert h
  show _ → StableHlo.after [_, _, _, _] (W3 m ρ c) _ = _
  generalize W3 m ρ c = M
  intro h
  simp only [StableHlo.after_cons, StableHlo.after_nil]
  rw [StableHlo.reshape_result_ne, StableHlo.reshape_result_ne, StableHlo.reshape_result', StableHlo.reshape_result_ne]
  · exact congrArg (fun v => shapeCast S1x3072x4608 (v : Vec Ideal S3072x4608 .fp8e4m3) shapeCasts_S3072x4608_S1x3072x4608) h
  all_goals decide

theorem res2 (c : Dev nD) : W4 m ρ c (Proc.devRef .tc main_v6)
    = shapeCast S1x3072x7168 (Spec.xCodes (a0 m c)) shapeCasts_S3072x7168_S1x3072x7168 := by
  have h := W3_xq m ρ c
  revert h
  show _ → StableHlo.after [_, _, _, _] (W3 m ρ c) _ = _
  generalize W3 m ρ c = M
  intro h
  simp only [StableHlo.after_cons, StableHlo.after_nil]
  rw [StableHlo.reshape_result_ne, StableHlo.reshape_result', StableHlo.reshape_result_ne, StableHlo.reshape_result_ne]
  · exact congrArg (fun v => shapeCast S1x3072x7168 (v : Vec Ideal S3072x7168 .fp8e4m3) shapeCasts_S3072x7168_S1x3072x7168) h
  all_goals decide

theorem res3 (c : Dev nD) : W4 m ρ c (Proc.devRef .tc main_v7)
    = shapeCast S1x3072x1 (Spec.xScale (a0 m c)) shapeCasts_S3072x1_S1x3072x1 := by
  have h := W3_xs m ρ c
  revert h
  show _ → StableHlo.after [_, _, _, _] (W3 m ρ c) _ = _
  generalize W3 m ρ c = M
  intro h
  simp only [StableHlo.after_cons, StableHlo.after_nil]
  rw [StableHlo.reshape_result', StableHlo.reshape_result_ne, StableHlo.reshape_result_ne, StableHlo.reshape_result_ne]
  · exact congrArg (fun v => shapeCast S1x3072x1 (v : Vec Ideal S3072x1 .f32) shapeCasts_S3072x1_S1x3072x1) h
  all_goals decide

/-- The kernel's run: its four results as the formulas of its arguments, the arguments unchanged. -/
theorem run : θ_run defs (onTc (τ := τ) (main (F := Ideal))) ⟨m, fun _ => 0, ρ⟩ (fun r => ∀ c : Dev nD,
    r.2.mem ((c.tc : Thread nD τ).loc main_v4) = shapeCast S1x3072x1 (Spec.hScale (a0 m c) (a1 m c) (a2 m c)) shapeCasts_S3072x1_S1x3072x1
    ∧ r.2.mem ((c.tc : Thread nD τ).loc main_v5) = shapeCast S1x3072x4608 (Spec.hCodes (a0 m c) (a1 m c) (a2 m c)) shapeCasts_S3072x4608_S1x3072x4608
    ∧ r.2.mem ((c.tc : Thread nD τ).loc main_v6) = shapeCast S1x3072x7168 (Spec.xCodes (a0 m c)) shapeCasts_S3072x7168_S1x3072x7168
    ∧ r.2.mem ((c.tc : Thread nD τ).loc main_v7) = shapeCast S1x3072x1 (Spec.xScale (a0 m c)) shapeCasts_S3072x1_S1x3072x1
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨(h.1 c _ (mem_uc main_v4 (by decide))).trans (res0 m ρ c),
     (h.1 c _ (mem_uc main_v5 (by decide))).trans (res1 m ρ c),
     (h.1 c _ (mem_uc main_v6 (by decide))).trans (res2 m ρ c),
     (h.1 c _ (mem_uc main_v7 (by decide))).trans (res3 m ρ c),
     (h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c)⟩)
    (run_all m ρ)

end Cert.KernelIdeal.Whole
-- ==== Proof.RefRows.lean ====
module

public import proofs.«01_k».proof.Proof.Spec
public import proofs.«01_k».proof.Proof.Gen.ReferenceIdeal.Frame
public import Idealize.ShloMosaic.Lib.Pipeline.Value

@[expose] public section

set_option maxRecDepth 16384

noncomputable section

namespace Cert.ReferenceIdeal.Whole

open Cert.ReferenceIdeal Cert.ReferenceIdeal.Gen
open Idealize.ShloMosaic

/-! # The reference's values at an index -/

theorem max_row (v : FVec Ideal S3072x7168 .f32) (r : Fin 3072) (z : Fin 1) :
    shapeCast S3072x1 (multiReduction .maximumf [1] S3072 v 0xFF800000#32 reduces_S3072x7168_S3072 (.inl rfl) rfl)
      shapeCasts_S3072_S3072x1 (ix2 r z) = Finset.univ.fold max (⊥ : EReal) (fun k => v (ix2 r k)) := by
  pointwise
  simp only [Spec.c_ninf]

theorem min_row (v : FVec Ideal S3072x256 .f32) (r : Fin 3072) (z : Fin 1) :
    shapeCast S3072x1 (multiReduction .minimumf [1] S3072 v 0x7F800000#32 reduces_S3072x256_S3072 (.inl rfl) rfl)
      shapeCasts_S3072_S3072x1 (ix2 r z)
      = Finset.univ.fold min (Ideal.ofBits .f32 0x7F800000#32) (fun k => v (ix2 r k)) := by
  pointwise

/-- The table of exponents, at every row. -/
def table : FVec Ideal S3072x256 .f32 :=
  sitofp .f32 (addi (iota .tc S3072x256 32 [1] iota_S3072x256_d1_w32) (broadcast S3072x256 4294967171#32))

/-- The exponents of a column of numbers. -/
def expoCol (v : FVec Ideal S3072x1 .f32) : FVec Ideal S3072x1 .f32 :=
  select (ori (cmpf .olt v (broadcast S3072x1 (Scalar.ofBits .f32 0x00800000#32)))
      (cmpf .oeq v (broadcast S3072x1 (Scalar.ofBits .f32 0x7F800000#32))))
    (broadcast S3072x1 (Scalar.ofBits .f32 0x00000000#32))
    (shapeCast S3072x1 (multiReduction .minimumf [1] S3072
      (select (andi (cmpf .ole table (broadcast S3072x256 (Scalar.ofBits .f32 0x42FE0000#32)))
        (cmpf .olt (broadcastTo S3072x256 v broadcasts_S3072x1_S3072x256) (exp2 table)))
        table (broadcast S3072x256 (Scalar.ofBits .f32 0x43000000#32)))
      0x7F800000#32 reduces_S3072x256_S3072 (.inl rfl) rfl) shapeCasts_S3072_S3072x1)

theorem table_apply (r : Fin 3072) (k : Fin 256) : table (ix2 r k) = Scale.entry k := by
  unfold table
  pointwise
  rfl

theorem bcol_apply (v : FVec Ideal S3072x1 .f32) (r : Fin 3072) (k : Fin 256) :
    broadcastTo S3072x256 v broadcasts_S3072x1_S3072x256 (ix2 r k) = v (ix2 r 0) := by
  pointwise

theorem expoCol_apply (v : FVec Ideal S3072x1 .f32) (r : Fin 3072) :
    expoCol v (ix2 r 0) = Scale.rExpo (v (ix2 r 0)) := by
  unfold expoCol
  rw [ValueIdx.select_apply, min_row]
  refine congrArg (fun f => Scalar.select (IntOp.ori (Ideal.cmp .olt (v (ix2 r 0)) (Ideal.ofBits .f32 0x00800000#32))
      (Ideal.cmp .oeq (v (ix2 r 0)) (Ideal.ofBits .f32 0x7F800000#32))) (Ideal.ofBits .f32 0x00000000#32)
      (Finset.univ.fold min (Ideal.ofBits .f32 0x7F800000#32) f)) (funext fun k => ?_)
  have h1 := table_apply r k
  have h2 := bcol_apply v r k
  revert h1 h2
  generalize table = T
  generalize broadcastTo S3072x256 v broadcasts_S3072x1_S3072x256 = B
  intro h1 h2
  unfold Scale.offer
  rw [← h1, ← h2]
  rfl

/-- A column of powers of two from a column of exponents. -/
def ldexpCol (e : FVec Ideal S3072x1 .f32) : FVec Ideal S3072x1 .f32 :=
  select (cmpf .olt e (broadcast S3072x1 (Scalar.ofBits .f32 0xC2FC0000#32)))
    (broadcast S3072x1 (Scalar.ofBits .f32 0x00000000#32))
    (select (cmpf .ogt e (broadcast S3072x1 (Scalar.ofBits .f32 0x42FE0000#32)))
      (broadcast S3072x1 (Scalar.ofBits .f32 0x7F800000#32)) (exp2 e))

theorem ldexpCol_apply (e : FVec Ideal S3072x1 .f32) (j : S3072x1.Idx) : ldexpCol e j = Scale.ldexp (e j) := rfl

/-- The exponents with their sign turned. -/
def negCol (e : FVec Ideal S3072x1 .f32) : FVec Ideal S3072x1 .f32 :=
  subf (broadcast S3072x1 (Scalar.ofBits .f32 0x00000000#32)) e

theorem negCol_apply (e : FVec Ideal S3072x1 .f32) (j : S3072x1.Idx) :
    negCol e j = Ideal.ofBits .f32 0x00000000#32 - e j := rfl

/-- What each row's scale is the power of two of. -/
def targetCol (v : FVec Ideal S3072x7168 .f32) : FVec Ideal S3072x1 .f32 :=
  mulf (shapeCast S3072x1 (multiReduction .maximumf [1] S3072 (absf v) 0xFF800000#32 reduces_S3072x7168_S3072 (.inl rfl) rfl)
      shapeCasts_S3072_S3072x1) (broadcast S3072x1 (Scalar.ofBits .f32 0x3B124925#32))

theorem targetCol_apply (v : FVec Ideal S3072x7168 .f32) (r : Fin 3072) :
    targetCol v (ix2 r 0) = Spec.target (fun k => v (ix2 r k)) := by
  unfold targetCol
  rw [mulf_apply, max_row]
  rfl

theorem pay1_eq (x : Vec Ideal S3072x7168 .bf16) : k0_pay1 x = x := by
  unfold k0_pay1
  funext j
  exact congrFun (shapeCast_self x _) j

theorem pay2_eq (x : Vec Ideal S3072x7168 .bf16) :
    k0_pay2 (F := Ideal) x = expoCol (targetCol (k0_pay1 (F := Ideal) x)) := by
  unfold k0_pay2
  generalize k0_pay1 (F := Ideal) x = y
  rfl

theorem pay3_eq (x : Vec Ideal S3072x7168 .bf16) : k0_pay3 (F := Ideal) x = ldexpCol (k0_pay2 (F := Ideal) x) := by
  unfold k0_pay3
  generalize k0_pay2 (F := Ideal) x = y
  rfl

theorem pay4_eq (x : Vec Ideal S3072x7168 .bf16) : k0_pay4 (F := Ideal) x = negCol (k0_pay2 (F := Ideal) x) := by
  unfold k0_pay4
  generalize k0_pay2 (F := Ideal) x = y
  rfl

theorem pay12_eq (v : FVec Ideal S3072x1 .f32) :
    k0_pay12 (F := Ideal) v (k0_pay9 (F := Ideal)) (k0_pay10 (F := Ideal)) (k0_pay11 (F := Ideal)) = expoCol v := by
  unfold k0_pay10 k0_pay11
  have h : k0_pay9 (F := Ideal) = table := rfl
  rw [h]
  unfold k0_pay12 expoCol
  generalize table = T
  rfl

theorem pay13_eq (v : FVec Ideal S3072x1 .f32) :
    k0_pay13 (F := Ideal) v (k0_pay9 (F := Ideal)) (k0_pay10 (F := Ideal)) (k0_pay11 (F := Ideal)) = ldexpCol (expoCol v) := by
  unfold k0_pay13
  rw [pay12_eq]
  generalize expoCol v = y
  rfl

end Cert.ReferenceIdeal.Whole
-- ==== Proof.RefHidden.lean ====
module

public import proofs.«01_k».proof.Proof.RefRows

@[expose] public section

noncomputable section

namespace Cert.ReferenceIdeal.Whole

open Idealize.ShloMosaic Cert.ReferenceIdeal.Gen

/-! # The reference's codes and hidden activation, at an index -/

theorem bcol7168 (v : FVec Ideal S3072x1 .f32) (r : Fin 3072) (k : Fin 7168) :
    broadcastTo S3072x7168 v broadcasts_S3072x1_S3072x7168 (ix2 r k) = v (ix2 r 0) := by
  pointwise

theorem bcol9216 (v : FVec Ideal S3072x1 .f32) (r : Fin 3072) (k : Fin 9216) :
    broadcastTo S3072x9216 v broadcasts_S3072x1_S3072x9216 (ix2 r k) = v (ix2 r 0) := by
  pointwise

theorem bcol4608 (v : FVec Ideal S3072x1 .f32) (r : Fin 3072) (k : Fin 4608) :
    broadcastTo S3072x4608 v broadcasts_S3072x1_S3072x4608 (ix2 r k) = v (ix2 r 0) := by
  pointwise

theorem brow9216 (v : FVec Ideal S1x9216 .f32) (r : Fin 3072) (k : Fin 9216) :
    broadcastTo S3072x9216 v broadcasts_S1x9216_S3072x9216 (ix2 r k) = v (ix2 0 k) := by
  pointwise

theorem slice_lo (v : FVec Ideal S3072x9216 .f32) (r : Fin 3072) (k : Fin 4608) :
    extractStridedSlice S3072x4608 ![0, 0] v slices_S3072x9216_o0_0_S3072x4608 (ix2 r k) = v (ix2 r (Spec.gateCol k)) := by
  pointwise

theorem slice_hi (v : FVec Ideal S3072x9216 .f32) (r : Fin 3072) (k : Fin 4608) :
    extractStridedSlice S3072x4608 ![0, 4608] v slices_S3072x9216_o0_4608_S3072x4608 (ix2 r k) = v (ix2 r (Spec.upCol k)) := by
  pointwise

theorem mm (a : FVec Ideal S3072x7168 .fp8e4m3) (b : FVec Ideal S7168x9216 .fp8e4m3) (r : Fin 3072) (c : Fin 9216) :
    matmul dot_S3072x7168_S7168x9216_S3072x9216_1_0_0_1_n_n none a b (constant S3072x9216 .f32 0x00000000#32) (ix2 r c)
      = ∑ k : Fin 7168, a (ix2 r k) * b (ix2 k c) := by
  pointwise

/-- The codes of an array from a column of exponents. -/
theorem pay6_apply (v : FVec Ideal S3072x7168 .f32) (e : FVec Ideal S3072x1 .f32) (r : Fin 3072) (k : Fin 7168) :
    k0_pay6 (F := Ideal) v e (cmpf .olt e (broadcast S3072x1 (Scalar.ofBits .f32 0xC2FC0000#32))) (Scalar.ofBits .f32 0x42FE0000#32)
      (ix2 r k) = Spec.code (v (ix2 r k)) (Scale.ldexp (e (ix2 r 0))) := by
  have h := bcol7168 (ldexpCol e) r k
  rw [ldexpCol_apply] at h
  unfold Spec.code
  rw [← h]
  rfl

/-- The scaled product of codes and weights. -/
def prodArr (q : FVec Ideal S3072x7168 .fp8e4m3) (s : FVec Ideal S3072x1 .f32) (w : Vec Ideal S7168x9216 .fp8e4m3)
    (c : Vec Ideal S1x9216 .f32) : FVec Ideal S3072x9216 .f32 :=
  mulf (mulf (matmul (φ₂ := .fp8e4m3) dot_S3072x7168_S7168x9216_S3072x9216_1_0_0_1_n_n none q w (constant S3072x9216 .f32 0x00000000#32))
    (broadcastTo S3072x9216 s broadcasts_S3072x1_S3072x9216))
    (broadcastTo S3072x9216 (shapeCast S1x9216 c shapeCasts_S1x9216_S1x9216) broadcasts_S1x9216_S3072x9216)

theorem prodArr_apply (q : FVec Ideal S3072x7168 .fp8e4m3) (s : FVec Ideal S3072x1 .f32) (w : Vec Ideal S7168x9216 .fp8e4m3)
    (c : Vec Ideal S1x9216 .f32) (r : Fin 3072) (j : Fin 9216) :
    prodArr q s w c (ix2 r j) = (∑ k : Fin 7168, q (ix2 r k) * w (ix2 k j)) * s (ix2 r 0) * c (ix2 0 j) := by
  unfold prodArr
  rw [mulf_apply, mulf_apply, mm, bcol9216, brow9216, shapeCast_self]
  rfl

/-- The gated activation of a product of both halves. -/
def gated (p : FVec Ideal S3072x9216 .f32) : FVec Ideal S3072x4608 .f32 :=
  mulf (mulf (extractStridedSlice S3072x4608 ![0, 0] p slices_S3072x9216_o0_0_S3072x4608)
    (logistic (extractStridedSlice S3072x4608 ![0, 0] p slices_S3072x9216_o0_0_S3072x4608)))
    (extractStridedSlice S3072x4608 ![0, 4608] p slices_S3072x9216_o0_4608_S3072x4608)

theorem gated_apply (p : FVec Ideal S3072x9216 .f32) (r : Fin 3072) (j : Fin 4608) :
    gated p (ix2 r j) = p (ix2 r (Spec.gateCol j)) * Ideal.logistic (p (ix2 r (Spec.gateCol j))) * p (ix2 r (Spec.upCol j)) := by
  rw [← slice_lo p r j, ← slice_hi p r j]
  rfl

theorem pay7_eq (v : FVec Ideal S3072x7168 .f32) (s e : FVec Ideal S3072x1 .f32) (b : IVec S3072x1 1) (z : Ideal .f32)
    (w : Vec Ideal S7168x9216 .fp8e4m3) (c : Vec Ideal S1x9216 .f32) :
    k0_pay7 (F := Ideal) v s e b z w c = gated (prodArr (k0_pay6 (F := Ideal) v e b z) s w c) := by
  unfold k0_pay7 gated prodArr
  generalize k0_pay6 (F := Ideal) v e b z = q
  rfl

theorem max_row4608 (v : FVec Ideal S3072x4608 .f32) (r : Fin 3072) (z : Fin 1) :
    shapeCast S3072x1 (multiReduction .maximumf [1] S3072 v 0xFF800000#32 reduces_S3072x4608_S3072 (.inl rfl) rfl)
      shapeCasts_S3072_S3072x1 (ix2 r z) = Finset.univ.fold max (⊥ : EReal) (fun k => v (ix2 r k)) := by
  pointwise
  simp only [Spec.c_ninf]

/-- What each hidden row's scale is the power of two of. -/
def targetCol4608 (v : FVec Ideal S3072x4608 .f32) : FVec Ideal S3072x1 .f32 :=
  mulf (shapeCast S3072x1 (multiReduction .maximumf [1] S3072 (absf v) 0xFF800000#32 reduces_S3072x4608_S3072 (.inl rfl) rfl)
      shapeCasts_S3072_S3072x1) (broadcast S3072x1 (Scalar.ofBits .f32 0x3B124925#32))

theorem targetCol4608_apply (v : FVec Ideal S3072x4608 .f32) (r : Fin 3072) :
    targetCol4608 v (ix2 r 0) = Spec.target (fun k => v (ix2 r k)) := by
  unfold targetCol4608
  rw [mulf_apply, max_row4608]
  rfl

theorem pay8_eq (v : FVec Ideal S3072x7168 .f32) (s e : FVec Ideal S3072x1 .f32) (b : IVec S3072x1 1) (z : Ideal .f32)
    (w : Vec Ideal S7168x9216 .fp8e4m3) (c : Vec Ideal S1x9216 .f32) :
    k0_pay8 (F := Ideal) v s e b z w c = targetCol4608 (k0_pay7 (F := Ideal) v s e b z w c) := by
  unfold k0_pay8
  generalize k0_pay7 (F := Ideal) v s e b z w c = q
  rfl

/-- The codes of the hidden array, from its column of scaled maxima. -/
theorem pay14_apply (h : FVec Ideal S3072x4608 .f32) (v : FVec Ideal S3072x1 .f32) (r : Fin 3072) (k : Fin 4608) :
    k0_pay14 (F := Ideal) h v (k0_pay9 (F := Ideal)) (k0_pay10 (F := Ideal)) (k0_pay11 (F := Ideal)) (ix2 r k)
      = Spec.code (h (ix2 r k)) (Scale.rInv (v (ix2 r 0))) := by
  have hb := bcol4608 (ldexpCol (negCol (expoCol v))) r k
  rw [ldexpCol_apply, negCol_apply, expoCol_apply] at hb
  unfold k0_pay14
  rw [pay12_eq]
  unfold Spec.code Scale.rInv
  rw [← hb]
  generalize expoCol v = y
  rfl

section
variable (x : Vec Ideal S3072x7168 .bf16) (w : Vec Ideal S7168x9216 .fp8e4m3) (c : Vec Ideal S1x9216 .f32)

/-- The scale of each row of `x`. -/
theorem xScale_apply (r : Fin 3072) : k0_pay3 (F := Ideal) x (ix2 r 0) = Spec.scaleRow fun k => x (ix2 r k) := by
  rw [pay3_eq, ldexpCol_apply, pay2_eq, expoCol_apply, targetCol_apply, pay1_eq]
  rfl

theorem pay5_eq : k0_pay5 (F := Ideal) x
    = cmpf .olt (k0_pay4 (F := Ideal) x) (broadcast S3072x1 (Scalar.ofBits .f32 0xC2FC0000#32)) := by
  unfold k0_pay5
  rfl

/-- The codes of `x`. -/
theorem xCodes_apply (r : Fin 3072) (k : Fin 7168) :
    k0_pay6 (F := Ideal) (k0_pay1 (F := Ideal) x) (k0_pay4 (F := Ideal) x) (k0_pay5 (F := Ideal) x) (Scalar.ofBits .f32 0x42FE0000#32) (ix2 r k)
      = Spec.codeRow (fun k => x (ix2 r k)) k := by
  rw [pay5_eq, pay6_apply, pay4_eq, negCol_apply, pay2_eq, expoCol_apply, targetCol_apply, pay1_eq]
  rfl

/-- The reference's hidden array. -/
def hArr : FVec Ideal S3072x4608 .f32 :=
  k0_pay7 (F := Ideal) (k0_pay1 (F := Ideal) x) (k0_pay3 (F := Ideal) x) (k0_pay4 (F := Ideal) x) (k0_pay5 (F := Ideal) x)
    (Scalar.ofBits .f32 0x42FE0000#32) w c

theorem hArr_apply (r : Fin 3072) (j : Fin 4608) :
    hArr x w c (ix2 r j) = Spec.hidden (fun r k => x (ix2 r k)) (fun k j => w (ix2 k j)) (fun j => c (ix2 0 j)) r j := by
  unfold hArr
  rw [pay7_eq, gated_apply, prodArr_apply, prodArr_apply, xScale_apply]
  simp only [xCodes_apply]
  rfl

/-- The column of the hidden array's scaled maxima. -/
def hTarget : FVec Ideal S3072x1 .f32 :=
  k0_pay8 (F := Ideal) (k0_pay1 (F := Ideal) x) (k0_pay3 (F := Ideal) x) (k0_pay4 (F := Ideal) x) (k0_pay5 (F := Ideal) x)
    (Scalar.ofBits .f32 0x42FE0000#32) w c

theorem hTarget_apply (r : Fin 3072) : hTarget x w c (ix2 r 0)
    = Spec.target (Spec.hidden (fun r k => x (ix2 r k)) (fun k j => w (ix2 k j)) (fun j => c (ix2 0 j)) r) := by
  unfold hTarget
  rw [pay8_eq, targetCol4608_apply]
  exact congrArg Spec.target (funext fun j => hArr_apply x w c r j)

/-- The scale of each hidden row. -/
theorem hScale_apply (r : Fin 3072) :
    k0_pay13 (F := Ideal) (hTarget x w c) (k0_pay9 (F := Ideal)) (k0_pay10 (F := Ideal)) (k0_pay11 (F := Ideal)) (ix2 r 0)
      = Spec.scaleRow (Spec.hidden (fun r k => x (ix2 r k)) (fun k j => w (ix2 k j)) (fun j => c (ix2 0 j)) r) := by
  rw [pay13_eq, ldexpCol_apply, expoCol_apply, hTarget_apply]
  rfl

/-- The codes of the hidden array. -/
theorem hCodes_apply (r : Fin 3072) (j : Fin 4608) :
    k0_pay14 (F := Ideal) (hArr x w c) (hTarget x w c) (k0_pay9 (F := Ideal)) (k0_pay10 (F := Ideal)) (k0_pay11 (F := Ideal)) (ix2 r j)
      = Spec.codeRow (Spec.hidden (fun r k => x (ix2 r k)) (fun k j => w (ix2 k j)) (fun j => c (ix2 0 j)) r) j := by
  rw [pay14_apply, hTarget_apply, hArr_apply]
  rfl

end

end Cert.ReferenceIdeal.Whole
-- ==== Proof.RefFinal.lean ====
module

public import proofs.«01_k».proof.Proof.RefHidden

@[expose] public section

noncomputable section

namespace Cert.ReferenceIdeal.Whole

open Cert.ReferenceIdeal Cert.ReferenceIdeal.Gen
open Idealize.ShloMosaic Idealize.ShloMosaic.TcCoe Idealize.SL.Sem
open Idealize.ShloMosaic.Pipeline (Dat)

/-! # The reference's arrays after its kernel -/

variable (m : (ℓ : Loc nD τ sig) → Buf (Elt Ideal) ℓ) (ρ : Dev nD → PrngReg)

theorem hz : (![0, 0] : Fin 2 → Nat) = fun _ => 0 := funext fun a => by fin_cases a <;> rfl

/-! Each window's one block is its whole array. -/

theorem read0 (t : Fin cfg0.N) (G : Vec Ideal S3072x7168 .bf16) : ((cfg0.win 0).blk t).view.read (Elt Ideal) G = G :=
  funext fun y => congrArg G (funext fun a => Fin.ext (show 0 * _ + 1 * (y a).val = (y a).val by rw [Nat.zero_mul, Nat.zero_add, Nat.one_mul]))
theorem read1 (t : Fin cfg0.N) (G : Vec Ideal S7168x9216 .fp8e4m3) : ((cfg0.win 1).blk t).view.read (Elt Ideal) G = G :=
  funext fun y => congrArg G (funext fun a => Fin.ext (show 0 * _ + 1 * (y a).val = (y a).val by rw [Nat.zero_mul, Nat.zero_add, Nat.one_mul]))
theorem read2 (t : Fin cfg0.N) (G : Vec Ideal S1x9216 .f32) : ((cfg0.win 2).blk t).view.read (Elt Ideal) G = G :=
  funext fun y => congrArg G (funext fun a => Fin.ext (show 0 * _ + 1 * (y a).val = (y a).val by rw [Nat.zero_mul, Nat.zero_add, Nat.one_mul]))
theorem read3 (t : Fin cfg0.N) (G : Vec Ideal S3072x1 .f32) : ((cfg0.win 3).blk t).view.read (Elt Ideal) G = G :=
  funext fun y => congrArg G (funext fun a => Fin.ext (show 0 * _ + 1 * (y a).val = (y a).val by rw [Nat.zero_mul, Nat.zero_add, Nat.one_mul]))
theorem read4 (t : Fin cfg0.N) (G : Vec Ideal S3072x4608 .fp8e4m3) : ((cfg0.win 4).blk t).view.read (Elt Ideal) G = G :=
  funext fun y => congrArg G (funext fun a => Fin.ext (show 0 * _ + 1 * (y a).val = (y a).val by rw [Nat.zero_mul, Nat.zero_add, Nat.one_mul]))
theorem read5 (t : Fin cfg0.N) (G : Vec Ideal S3072x7168 .fp8e4m3) : ((cfg0.win 5).blk t).view.read (Elt Ideal) G = G :=
  funext fun y => congrArg G (funext fun a => Fin.ext (show 0 * _ + 1 * (y a).val = (y a).val by rw [Nat.zero_mul, Nat.zero_add, Nat.one_mul]))
theorem read6 (t : Fin cfg0.N) (G : Vec Ideal S3072x1 .f32) : ((cfg0.win 6).blk t).view.read (Elt Ideal) G = G :=
  funext fun y => congrArg G (funext fun a => Fin.ext (show 0 * _ + 1 * (y a).val = (y a).val by rw [Nat.zero_mul, Nat.zero_add, Nat.one_mul]))

/-- The array `x` as the kernel finds it. -/
abbrev xIn (c : Dev nD) : Vec Ideal S3072x7168 .bf16 := V m c main_v0
/-- The weight codes as the kernel finds them. -/
abbrev wIn (c : Dev nD) : Vec Ideal S7168x9216 .fp8e4m3 := V m c main_arg1
/-- The weight scales as the kernel finds them. -/
abbrev cIn (c : Dev nD) : Vec Ideal S1x9216 .f32 := V m c main_v1

theorem iblk0 (c : Dev nD) (t : Fin cfg0.N) : iblk m c 0 t = xIn m c := read0 t _
theorem iblk1 (c : Dev nD) (t : Fin cfg0.N) : iblk m c 1 t = wIn m c := read1 t _
theorem iblk2 (c : Dev nD) (t : Fin cfg0.N) : iblk m c 2 t = cIn m c := read2 t _

/-- The hidden rows' scales. -/
def out3 (c : Dev nD) : FVec Ideal S3072x1 .f32 :=
  k0_pay13 (F := Ideal) (hTarget (xIn m c) (wIn m c) (cIn m c)) (k0_pay9 (F := Ideal)) (k0_pay10 (F := Ideal)) (k0_pay11 (F := Ideal))
/-- The hidden codes. -/
def out4 (c : Dev nD) : FVec Ideal S3072x4608 .fp8e4m3 :=
  k0_pay14 (F := Ideal) (hArr (xIn m c) (wIn m c) (cIn m c)) (hTarget (xIn m c) (wIn m c) (cIn m c))
    (k0_pay9 (F := Ideal)) (k0_pay10 (F := Ideal)) (k0_pay11 (F := Ideal))
/-- The codes of `x`. -/
def out5 (c : Dev nD) : FVec Ideal S3072x7168 .fp8e4m3 :=
  k0_pay6 (F := Ideal) (k0_pay1 (F := Ideal) (xIn m c)) (k0_pay4 (F := Ideal) (xIn m c)) (k0_pay5 (F := Ideal) (xIn m c))
    (Scalar.ofBits .f32 0x42FE0000#32)
/-- The scales of `x`. -/
def out6 (c : Dev nD) : FVec Ideal S3072x1 .f32 := k0_pay3 (F := Ideal) (xIn m c)

theorem flushed3 (c : Dev nD) (t : Fin cfg0.N) :
    (dats m 0 c).flushed 3 t = ((cfg0.win 3).blk t).view.read (Elt Ideal) (out3 m c) := by
  refine Eq.trans ?_ (read3 t _).symm
  show (cfg0.win 3).cut (grid0.coords t) ((dats m 0 c).after 3 t) = _
  rw [after0_3, iblk0, iblk1, iblk2]
  unfold out0_3 k0_pay19 k0_pay20 k0_pay21 k0_pay22 k0_pay18 k0_pay17 k0_pay16 k0_pay15
  rw [View.canon_unit_zero hz, View.ld_unit_zero hz, View.ld_unit_zero hz, View.ld_unit_zero hz]
  rfl

theorem flushed4 (c : Dev nD) (t : Fin cfg0.N) :
    (dats m 0 c).flushed 4 t = ((cfg0.win 4).blk t).view.read (Elt Ideal) (out4 m c) := by
  refine Eq.trans ?_ (read4 t _).symm
  show (cfg0.win 4).cut (grid0.coords t) ((dats m 0 c).after 4 t) = _
  rw [after0_4, iblk0, iblk1, iblk2]
  unfold out0_4 k0_pay19 k0_pay20 k0_pay21 k0_pay22 k0_pay18 k0_pay17 k0_pay16 k0_pay15
  rw [View.canon_unit_zero hz, View.ld_unit_zero hz, View.ld_unit_zero hz, View.ld_unit_zero hz]
  rfl

theorem flushed5 (c : Dev nD) (t : Fin cfg0.N) :
    (dats m 0 c).flushed 5 t = ((cfg0.win 5).blk t).view.read (Elt Ideal) (out5 m c) := by
  refine Eq.trans ?_ (read5 t _).symm
  show (cfg0.win 5).cut (grid0.coords t) ((dats m 0 c).after 5 t) = _
  rw [after0_5, iblk0, iblk1, iblk2]
  unfold out0_5 k0_pay18 k0_pay17 k0_pay15
  rw [View.canon_unit_zero hz, View.ld_unit_zero hz]
  rfl

theorem flushed6 (c : Dev nD) (t : Fin cfg0.N) :
    (dats m 0 c).flushed 6 t = ((cfg0.win 6).blk t).view.read (Elt Ideal) (out6 m c) := by
  refine Eq.trans ?_ (read6 t _).symm
  show (cfg0.win 6).cut (grid0.coords t) ((dats m 0 c).after 6 t) = _
  rw [after0_6, iblk0, iblk1, iblk2]
  unfold out0_6 k0_pay16
  rw [View.canon_unit_zero hz, View.ld_unit_zero hz]
  rfl

theorem cover3 (i : S3072x1.Idx) : ∃ t : Fin cfg0.N, (cfg0.win 3).flush t = true ∧ i ∈ ((cfg0.win 3).blk t).view.set := by
  refine ⟨⟨0, by decide⟩, by decide, ?_⟩
  generalize (⟨0, _⟩ : Fin cfg0.N) = t
  show i ∈ ((View.whole main_v2_0).slice (win0_3.rect t)).set
  rw [View.set_slice_whole, Rect.mem_set_unit]
  exact fun a => ⟨by show 0 * _ ≤ _; omega, by show _ < 0 * _ + _; have := (i a).isLt; rw [Nat.zero_mul, Nat.zero_add]; exact this⟩

theorem cover4 (i : S3072x4608.Idx) : ∃ t : Fin cfg0.N, (cfg0.win 4).flush t = true ∧ i ∈ ((cfg0.win 4).blk t).view.set := by
  refine ⟨⟨0, by decide⟩, by decide, ?_⟩
  generalize (⟨0, _⟩ : Fin cfg0.N) = t
  show i ∈ ((View.whole main_v2_1).slice (win0_4.rect t)).set
  rw [View.set_slice_whole, Rect.mem_set_unit]
  exact fun a => ⟨by show 0 * _ ≤ _; omega, by show _ < 0 * _ + _; have := (i a).isLt; rw [Nat.zero_mul, Nat.zero_add]; exact this⟩

theorem cover5 (i : S3072x7168.Idx) : ∃ t : Fin cfg0.N, (cfg0.win 5).flush t = true ∧ i ∈ ((cfg0.win 5).blk t).view.set := by
  refine ⟨⟨0, by decide⟩, by decide, ?_⟩
  generalize (⟨0, _⟩ : Fin cfg0.N) = t
  show i ∈ ((View.whole main_v2_2).slice (win0_5.rect t)).set
  rw [View.set_slice_whole, Rect.mem_set_unit]
  exact fun a => ⟨by show 0 * _ ≤ _; omega, by show _ < 0 * _ + _; have := (i a).isLt; rw [Nat.zero_mul, Nat.zero_add]; exact this⟩

theorem cover6 (i : S3072x1.Idx) : ∃ t : Fin cfg0.N, (cfg0.win 6).flush t = true ∧ i ∈ ((cfg0.win 6).blk t).view.set := by
  refine ⟨⟨0, by decide⟩, by decide, ?_⟩
  generalize (⟨0, _⟩ : Fin cfg0.N) = t
  show i ∈ ((View.whole main_v2_3).slice (win0_6.rect t)).set
  rw [View.set_slice_whole, Rect.mem_set_unit]
  exact fun a => ⟨by show 0 * _ ≤ _; omega, by show _ < 0 * _ + _; have := (i a).isLt; rw [Nat.zero_mul, Nat.zero_add]; exact this⟩

theorem final3 (c : Dev nD) : (dats m 0 c).arrAt 3 cfg0.N = out3 m c :=
  (dats m 0 c).arrAt_eq_of_cover 3 (out3 m c) (fun t _ => flushed3 m c t) cover3
theorem final4 (c : Dev nD) : (dats m 0 c).arrAt 4 cfg0.N = out4 m c :=
  (dats m 0 c).arrAt_eq_of_cover 4 (out4 m c) (fun t _ => flushed4 m c t) cover4
theorem final5 (c : Dev nD) : (dats m 0 c).arrAt 5 cfg0.N = out5 m c :=
  (dats m 0 c).arrAt_eq_of_cover 5 (out5 m c) (fun t _ => flushed5 m c t) cover5
theorem final6 (c : Dev nD) : (dats m 0 c).arrAt 6 cfg0.N = out6 m c :=
  (dats m 0 c).arrAt_eq_of_cover 6 (out6 m c) (fun t _ => flushed6 m c t) cover6

end Cert.ReferenceIdeal.Whole
-- ==== Proof.RefRun.lean ====
module

public import proofs.«01_k».proof.Proof.RefFinal
public import proofs.«01_k».proof.Proof.Results

@[expose] public section

noncomputable section

namespace Cert.ReferenceIdeal.Whole

open Cert.ReferenceIdeal Cert.ReferenceIdeal.Gen
open Idealize.ShloMosaic Idealize.ShloMosaic.TcCoe Idealize.SL.Sem
open Idealize.ShloMosaic.Pipeline (Dat)

/-! # The reference's run, read at its four results -/

variable (m : (ℓ : Loc nD τ sig) → Buf (Elt Ideal) ℓ) (ρ : Dev nD → PrngReg)

/-- The arguments as launched. -/
abbrev a0 (c : Dev nD) : Vec Ideal S1x3072x7168 .bf16 := m ((c : Thread nD τ).loc main_arg0)
abbrev a1 (c : Dev nD) : Vec Ideal S7168x9216 .fp8e4m3 := m ((c : Thread nD τ).loc main_arg1)
abbrev a2 (c : Dev nD) : Vec Ideal S9216 .f32 := m ((c : Thread nD τ).loc main_arg2)

theorem xIn_eq (c : Dev nD) : xIn m c = shapeCast S3072x7168 (a0 m c) shapeCasts_S1x3072x7168_S3072x7168 := by
  show StableHlo.after [_, _] _ _ = _
  simp only [StableHlo.after_cons, StableHlo.after_nil]
  rw [StableHlo.reshape_result_ne, StableHlo.reshape_result']
  · rfl
  · decide

theorem cIn_eq (c : Dev nD) : cIn m c = shapeCast S1x9216 (a2 m c) shapeCasts_S9216_S1x9216 := by
  show StableHlo.after [_, _] _ _ = _
  simp only [StableHlo.after_cons, StableHlo.after_nil]
  rw [StableHlo.reshape_result', StableHlo.reshape_result_ne]
  · rfl
  · decide

theorem wIn_eq (c : Dev nD) : wIn m c = a1 m c := V_main_arg1 m c

theorem cast_x (a : Vec Ideal S1x3072x7168 .bf16) (r : Fin 3072) (k : Fin 7168) :
    shapeCast S3072x7168 a shapeCasts_S1x3072x7168_S3072x7168 (ix2 r k) = a (ix3 0 r k) := by
  pointwise
theorem cast_c (a : Vec Ideal S9216 .f32) (j : Fin 9216) :
    shapeCast S1x9216 a shapeCasts_S9216_S1x9216 (ix2 0 j) = a (ix1 j) := by
  pointwise

theorem rows_x (c : Dev nD) : (fun r k => xIn m c (ix2 r k)) = Spec.argX (a0 m c) := by
  funext r k; rw [xIn_eq, cast_x]; rfl
theorem rows_w (c : Dev nD) : (fun r k => wIn m c (ix2 r k)) = Spec.argW (a1 m c) := by
  funext r k; rw [wIn_eq]; rfl
theorem rows_c (c : Dev nD) : (fun j => cIn m c (ix2 0 j)) = Spec.argS (a2 m c) := by
  funext j; rw [cIn_eq, cast_c]; rfl

theorem out3_eq (c : Dev nD) : out3 m c = Spec.hScale (a0 m c) (a1 m c) (a2 m c) := by
  funext i
  obtain ⟨r, z, rfl⟩ : ∃ r z, i = ix2 r z := ⟨i 0, i 1, eq_ix2 i⟩
  obtain rfl : z = 0 := Subsingleton.elim _ _
  unfold out3
  rw [hScale_apply, rows_x, rows_w, rows_c]
  rfl
theorem out4_eq (c : Dev nD) : out4 m c = Spec.hCodes (a0 m c) (a1 m c) (a2 m c) := by
  funext i
  obtain ⟨r, z, rfl⟩ : ∃ r z, i = ix2 r z := ⟨i 0, i 1, eq_ix2 i⟩
  unfold out4
  rw [hCodes_apply, rows_x, rows_w, rows_c]
  rfl
theorem out5_eq (c : Dev nD) : out5 m c = Spec.xCodes (a0 m c) := by
  funext i
  obtain ⟨r, z, rfl⟩ : ∃ r z, i = ix2 r z := ⟨i 0, i 1, eq_ix2 i⟩
  unfold out5
  rw [xCodes_apply]
  have h := congrFun (rows_x m c) r
  rw [h]
  rfl
theorem out6_eq (c : Dev nD) : out6 m c = Spec.xScale (a0 m c) := by
  funext i
  obtain ⟨r, z, rfl⟩ : ∃ r z, i = ix2 r z := ⟨i 0, i 1, eq_ix2 i⟩
  obtain rfl : z = 0 := Subsingleton.elim _ _
  unfold out6
  rw [xScale_apply]
  have h := congrFun (rows_x m c) r
  rw [h]
  rfl

/-- The buffers after the kernel. -/
abbrev mid (c : Dev nD) : Valuation τ sig (Elt Ideal) :=
  Pipeline.withArrays spec0 c (V0 m c) fun w => (dats m 0 c).arrAt w cfg0.N

theorem mid_arr (c : Dev nD) (w : Fin cfg0.W) : mid m c (Proc.devRef .tc (Pipeline.arrRef spec0 w)) = (dats m 0 c).arrAt w cfg0.N :=
  Pipeline.withArrays_arr spec0 launch0.win.arr_inj c _ _ w

theorem tail3 (c : Dev nD) : Pipeline.afterTail₀ cfgs (dats m) 0 (V0 m) [hostOps1] c main_v3
    = shapeCast S1x3072x1 (Spec.hScale (a0 m c) (a1 m c) (a2 m c)) shapeCasts_S3072x1_S1x3072x1 := by
  rw [← out3_eq, ← final3]
  have h := mid_arr m c 3
  revert h
  show _ → StableHlo.after [_, _, _, _] (mid m c) _ = _
  generalize mid m c = M
  intro h
  simp only [StableHlo.after_cons, StableHlo.after_nil]
  rw [StableHlo.reshape_result_ne, StableHlo.reshape_result_ne, StableHlo.reshape_result_ne, StableHlo.reshape_result']
  · exact congrArg (fun v => shapeCast S1x3072x1 (v : Vec Ideal S3072x1 .f32) shapeCasts_S3072x1_S1x3072x1) h
  all_goals decide

theorem tail4 (c : Dev nD) : Pipeline.afterTail₀ cfgs (dats m) 0 (V0 m) [hostOps1] c main_v4
    = shapeCast S1x3072x4608 (Spec.hCodes (a0 m c) (a1 m c) (a2 m c)) shapeCasts_S3072x4608_S1x3072x4608 := by
  rw [← out4_eq, ← final4]
  have h := mid_arr m c 4
  revert h
  show _ → StableHlo.after [_, _, _, _] (mid m c) _ = _
  generalize mid m c = M
  intro h
  simp only [StableHlo.after_cons, StableHlo.after_nil]
  rw [StableHlo.reshape_result_ne, StableHlo.reshape_result_ne, StableHlo.reshape_result', StableHlo.reshape_result_ne]
  · exact congrArg (fun v => shapeCast S1x3072x4608 (v : Vec Ideal S3072x4608 .fp8e4m3) shapeCasts_S3072x4608_S1x3072x4608) h
  all_goals decide

theorem tail5 (c : Dev nD) : Pipeline.afterTail₀ cfgs (dats m) 0 (V0 m) [hostOps1] c main_v5
    = shapeCast S1x3072x7168 (Spec.xCodes (a0 m c)) shapeCasts_S3072x7168_S1x3072x7168 := by
  rw [← out5_eq, ← final5]
  have h := mid_arr m c 5
  revert h
  show _ → StableHlo.after [_, _, _, _] (mid m c) _ = _
  generalize mid m c = M
  intro h
  simp only [StableHlo.after_cons, StableHlo.after_nil]
  rw [StableHlo.reshape_result_ne, StableHlo.reshape_result', StableHlo.reshape_result_ne, StableHlo.reshape_result_ne]
  · exact congrArg (fun v => shapeCast S1x3072x7168 (v : Vec Ideal S3072x7168 .fp8e4m3) shapeCasts_S3072x7168_S1x3072x7168) h
  all_goals decide

theorem tail6 (c : Dev nD) : Pipeline.afterTail₀ cfgs (dats m) 0 (V0 m) [hostOps1] c main_v6
    = shapeCast S1x3072x1 (Spec.xScale (a0 m c)) shapeCasts_S3072x1_S1x3072x1 := by
  rw [← out6_eq, ← final6]
  have h := mid_arr m c 6
  revert h
  show _ → StableHlo.after [_, _, _, _] (mid m c) _ = _
  generalize mid m c = M
  intro h
  simp only [StableHlo.after_cons, StableHlo.after_nil]
  rw [StableHlo.reshape_result', StableHlo.reshape_result_ne, StableHlo.reshape_result_ne, StableHlo.reshape_result_ne]
  · exact congrArg (fun v => shapeCast S1x3072x1 (v : Vec Ideal S3072x1 .f32) shapeCasts_S3072x1_S1x3072x1) h
  all_goals decide

/-- The reference's run: its four results as the formulas of its arguments, the arguments unchanged. -/
theorem run : θ_run defs (onTc (τ := τ) (main (F := Ideal))) ⟨m, fun _ => 0, ρ⟩ (fun r => ∀ c : Dev nD,
    r.2.mem ((c.tc : Thread nD τ).loc main_v3) = shapeCast S1x3072x1 (Spec.hScale (a0 m c) (a1 m c) (a2 m c)) shapeCasts_S3072x1_S1x3072x1
    ∧ r.2.mem ((c.tc : Thread nD τ).loc main_v4) = shapeCast S1x3072x4608 (Spec.hCodes (a0 m c) (a1 m c) (a2 m c)) shapeCasts_S3072x4608_S1x3072x4608
    ∧ r.2.mem ((c.tc : Thread nD τ).loc main_v5) = shapeCast S1x3072x7168 (Spec.xCodes (a0 m c)) shapeCasts_S3072x7168_S1x3072x7168
    ∧ r.2.mem ((c.tc : Thread nD τ).loc main_v6) = shapeCast S1x3072x1 (Spec.xScale (a0 m c)) shapeCasts_S3072x1_S1x3072x1
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨((h.1 c).2 main_v3 (Pipeline.mem_restRefs_of main_v3 (by decide) (by decide))).trans (tail3 m c),
     ((h.1 c).2 main_v4 (Pipeline.mem_restRefs_of main_v4 (by decide) (by decide))).trans (tail4 m c),
     ((h.1 c).2 main_v5 (Pipeline.mem_restRefs_of main_v5 (by decide) (by decide))).trans (tail5 m c),
     ((h.1 c).2 main_v6 (Pipeline.mem_restRefs_of main_v6 (by decide) (by decide))).trans (tail6 m c),
     h.2 c⟩)
    (θ_run_and (run_main m ρ) (unchanged m ρ))

end Cert.ReferenceIdeal.Whole
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.WordRun
public import proofs.«01_k».proof.Proof.Run
public import proofs.«01_k».proof.Proof.KerRun
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- Kernel and reference leave the same four results: each leaves the formulas of Proof/Results.lean of its arguments. -/
theorem same_results : Cert.algebraic_KernelIdeal_ReferenceIdeal (hKernelIdeal := Cert.KernelIdeal.Gen.facts)
    (hReferenceIdeal := Cert.ReferenceIdeal.Gen.facts) := by
  intro m g m' g' _ hm
  refine ⟨_, _, _, _, Cert.KernelIdeal.Whole.run m g, (θ_run _ _ _).mono (fun r h c => ?_) (Cert.ReferenceIdeal.Whole.run m' g')⟩
  obtain ⟨e0, e1, e2⟩ := hm c
  have h := h c
  unfold Cert.ReferenceIdeal.Whole.a0 Cert.ReferenceIdeal.Whole.a1 Cert.ReferenceIdeal.Whole.a2 at h
  obtain ⟨h0, h1, h2, h3, hargs⟩ := h
  refine ⟨h0.trans ?_, h1.trans ?_, h2.trans ?_, h3.trans ?_, hargs⟩
  · exact congrArg (fun v => shapeCast _ v Cert.KernelIdeal.Gen.shapeCasts_S3072x1_S1x3072x1) (congr (congr (congrArg Cert.Spec.hScale e0) e1) e2)
  · exact congrArg (fun v => shapeCast _ v Cert.KernelIdeal.Gen.shapeCasts_S3072x4608_S1x3072x4608) (congr (congr (congrArg Cert.Spec.hCodes e0) e1) e2)
  · exact congrArg (fun v => shapeCast _ v Cert.KernelIdeal.Gen.shapeCasts_S3072x7168_S1x3072x7168) (congrArg Cert.Spec.xCodes e0)
  · exact congrArg (fun v => shapeCast _ v Cert.KernelIdeal.Gen.shapeCasts_S3072x1_S1x3072x1) (congrArg Cert.Spec.xScale e0)

theorem claim : Cert.Claim :=
  ⟨Cert.Kernel.Gen.facts, Cert.KernelIdeal.Gen.facts, Cert.ReferenceIdeal.Gen.facts,
    fun m ρ _ => Cert.Kernel.Whole.frame m ρ,
    fun m ρ _ => Cert.KernelIdeal.Whole.frame m ρ,
    fun m ρ _ => Cert.ReferenceIdeal.Gen.frame m ρ,
    trivial,
    same_results⟩

end Cert.Proof

end
